-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x2048 : Shape := ⟨3, ![4, 4096, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel

variable [Facts]

def fn {F : FTy → Type} [FloatOps F] (main_arg0 : FVec F S4x4096x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  main_v3
-- ==== Kernel.lean ====
abbrev S4x4096x2048 : Shape := ⟨3, ![4, 4096, 2048]⟩
abbrev S256 : Shape := ⟨1, ![256]⟩
abbrev S16 : Shape := ⟨1, ![16]⟩
abbrev S2x1x64x256 : Shape := ⟨4, ![2, 1, 64, 256]⟩
abbrev S2 : Shape := ⟨1, ![2]⟩
abbrev S1x1x64x256 : Shape := ⟨4, ![1, 1, 64, 256]⟩
abbrev S1x64x256 : Shape := ⟨3, ![1, 64, 256]⟩
abbrev S1 : Shape := ⟨1, ![1]⟩
abbrev S_ : Shape := ⟨0, ![]⟩
abbrev S1x1x16 : Shape := ⟨3, ![1, 1, 16]⟩

abbrev nBuf : Table → Nat
  | .hbm => 2
  | .local .scVector .vmem => 3
  | _ => 0

abbrev bufTy : (tb : Table) → Fin (nBuf tb) → BufTy
  | .hbm, ⟨0, _⟩ => ⟨S4x4096x2048, .f32⟩
  | .hbm, ⟨1, _⟩ => ⟨S4x4096x2048, .f32⟩
  | .local .scVector .vmem, ⟨0, _⟩ => ⟨S256, .f32⟩
  | .local .scVector .vmem, ⟨1, _⟩ => ⟨S2x1x64x256, .f32⟩
  | .local .scVector .vmem, ⟨2, _⟩ => ⟨S2x1x64x256, .f32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scoped0 : Ref sig .scVector := ⟨.vmem, 1, rfl⟩
abbrev cc0_scoped2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 4 → Nat :=
  let c0_i32_46_r0 : BitVec 32 := 0#32
  let c2_i32_r0 : BitVec 32 := 2#32
  let v97_r0 : BitVec 32 := Scalar.remui c0_i32_46_r0 c2_i32_r0
  let c0_i32_60_r0 : BitVec 32 := 0#32
  let c0_i32_61_r0 : BitVec 32 := 0#32
  let c0_i32_62_r0 : BitVec 32 := 0#32
  ![v97_r0.toNat, 0, 0, 0]
def k0_off2 (i : grid0.Coords) : Fin 3 → Nat :=
  let c1_i32_59_r0 : BitVec 32 := 1#32
  let c0_i32_17_r0 : BitVec 32 := 0#32
  let c0_i32 : BitVec 32 := 0#32
  let arg1 : BitVec 32 := BitVec.ofNat 32 (i 1).val
  let c1_i32 : BitVec 32 := 1#32
  let v64 : BitVec 32 := Scalar.muli arg1 c1_i32
  let v65 : BitVec 32 := Scalar.addi c0_i32 v64
  let arg0 : BitVec 32 := BitVec.ofNat 32 (i 0).val
  let c16_i32 : BitVec 32 := 16#32
  let v66 : BitVec 32 := Scalar.muli arg0 c16_i32
  let v67 : BitVec 32 := Scalar.addi v65 v66
  let c1_i32_15 : BitVec 32 := 1#32
  let v68 : BitVec 32 := Scalar.muli v67 c1_i32_15
  let v71_r0 : BitVec 32 := Scalar.addi c0_i32_17_r0 v68
  let c0_i32_47_r0 : BitVec 32 := 0#32
  let v99_r0 : BitVec 1 := Scalar.cmpi .sgt v71_r0 c0_i32_47_r0
  let v100_r0 : BitVec 32 := Scalar.extui v99_r0
  let c0_i32_48_r0 : BitVec 32 := 0#32
  let v101_r0 : BitVec 1 := Scalar.cmpi .slt v71_r0 c0_i32_48_r0
  let v102_r0 : BitVec 32 := Scalar.extui v101_r0
  let v103_r0 : BitVec 32 := Scalar.subi v100_r0 v102_r0
  let c8_i32_r0 : BitVec 32 := 8#32
  let c0_i32_49_r0 : BitVec 32 := 0#32
  let v104_r0 : BitVec 1 := Scalar.cmpi .sgt c8_i32_r0 c0_i32_49_r0
  let v105_r0 : BitVec 32 := Scalar.extui v104_r0
  let c0_i32_50_r0 : BitVec 32 := 0#32
  let v106_r0 : BitVec 1 := Scalar.cmpi .slt c8_i32_r0 c0_i32_50_r0
  let v107_r0 : BitVec 32 := Scalar.extui v106_r0
  let v108_r0 : BitVec 32 := Scalar.subi v105_r0 v107_r0
  let v109_r0 : BitVec 1 := Scalar.cmpi .ne v103_r0 v108_r0
  let v110_r0 : BitVec 32 := Scalar.remsi v71_r0 c8_i32_r0
  let c0_i32_51_r0 : BitVec 32 := 0#32
  let v111_r0 : BitVec 1 := Scalar.cmpi .ne v110_r0 c0_i32_51_r0
  let v112_r0 : BitVec 1 := Scalar.andi v109_r0 v111_r0
  let v98_r0 : BitVec 32 := Scalar.divsi v71_r0 c8_i32_r0
  let c1_i32_52_r0 : BitVec 32 := 1#32
  let v113_r0 : BitVec 32 := Scalar.subi v98_r0 c1_i32_52_r0
  let v114_r0 : BitVec 32 := Scalar.select v112_r0 v113_r0 v98_r0
  let v125_r0 : BitVec 32 := Scalar.muli c1_i32_59_r0 v114_r0
  let c0_i32_63_r0 : BitVec 32 := 0#32
  let c256_i32_r0 : BitVec 32 := 256#32
  let c8_i32_53_r0 : BitVec 32 := 8#32
  let c0_i32_54_r0 : BitVec 32 := 0#32
  let v115_r0 : BitVec 1 := Scalar.cmpi .eq c8_i32_53_r0 c0_i32_54_r0
  let c1_i32_55_r0 : BitVec 32 := 1#32
  let v116_r0 : BitVec 32 := Scalar.select v115_r0 c1_i32_55_r0 c8_i32_53_r0
  let v117_r0 : BitVec 32 := Scalar.remsi v71_r0 v116_r0
  let c0_i32_57_r0 : BitVec 32 := 0#32
  let v119_r0 : BitVec 1 := Scalar.cmpi .slt v117_r0 c0_i32_57_r0
  let c0_i32_58_r0 : BitVec 32 := 0#32
  let v120_r0 : BitVec 1 := Scalar.cmpi .slt v116_r0 c0_i32_58_r0
  let v121_r0 : BitVec 1 := Scalar.xori v119_r0 v120_r0
  let c0_i32_56_r0 : BitVec 32 := 0#32
  let v118_r0 : BitVec 1 := Scalar.cmpi .ne v117_r0 c0_i32_56_r0
  let v122_r0 : BitVec 1 := Scalar.andi v121_r0 v118_r0
  let v123_r0 : BitVec 32 := Scalar.addi v117_r0 v116_r0
  let v124_r0 : BitVec 32 := Scalar.select v122_r0 v123_r0 v117_r0
  let v126_r0 : BitVec 32 := Scalar.muli c256_i32_r0 v124_r0
  ![v125_r0.toNat, 0, v126_r0.toNat]
def k0_off3 : Fin 1 → Nat :=
  let c0_i32_46_r0 : BitVec 32 := 0#32
  let c2_i32_r0 : BitVec 32 := 2#32
  let v97_r0 : BitVec 32 := Scalar.remui c0_i32_46_r0 c2_i32_r0
  ![v97_r0.toNat]
@[reducible] def k0_t1_loop : Scf.Loop 32 :=
  let c0_i32_75_r0 : BitVec 32 := 0#32
  let c64_i32_76_r0 : BitVec 32 := 64#32
  let v136_r0 : BitVec 32 := Scalar.addi c0_i32_75_r0 c64_i32_76_r0
  let c1_i32_77_r0 : BitVec 32 := 1#32
  ⟨c0_i32_75_r0, v136_r0, c1_i32_77_r0⟩
def k0_off4 (arg6_r0 : BitVec 32) : Fin 4 → Nat :=
  let c2_i32_324_r0 : BitVec 32 := 2#32
  let v590_r0 : BitVec 32 := Scalar.remui arg6_r0 c2_i32_324_r0
  let c0_i32_341_r0 : BitVec 32 := 0#32
  let c0_i32_342_r0 : BitVec 32 := 0#32
  let c0_i32_343_r0 : BitVec 32 := 0#32
  ![v590_r0.toNat, 0, 0, 0]
def k0_cond1 (i : grid0.Coords) (k0_t1 : Fin k0_t1_loop.trips) (arg11_r0 : BitVec 32) : BitVec 1 :=
  let c0_i32_143_r0 : BitVec 32 := 0#32
  let c0_i32 : BitVec 32 := 0#32
  let arg1 : BitVec 32 := BitVec.ofNat 32 (i 1).val
  let c1_i32 : BitVec 32 := 1#32
  let v64 : BitVec 32 := Scalar.muli arg1 c1_i32
  let v65 : BitVec 32 := Scalar.addi c0_i32 v64
  let arg0 : BitVec 32 := BitVec.ofNat 32 (i 0).val
  let c16_i32 : BitVec 32 := 16#32
  let v66 : BitVec 32 := Scalar.muli arg0 c16_i32
  let v67 : BitVec 32 := Scalar.addi v65 v66
  let c1_i32_15 : BitVec 32 := 1#32
  let v68 : BitVec 32 := Scalar.muli v67 c1_i32_15
  let v216_r0 : BitVec 32 := Scalar.addi c0_i32_143_r0 v68
  let c0_i32_176_r0 : BitVec 32 := 0#32
  let v246_r0 : BitVec 1 := Scalar.cmpi .sgt v216_r0 c0_i32_176_r0
  let v247_r0 : BitVec 32 := Scalar.extui v246_r0
  let c0_i32_177_r0 : BitVec 32 := 0#32
  let v248_r0 : BitVec 1 := Scalar.cmpi .slt v216_r0 c0_i32_177_r0
  let v249_r0 : BitVec 32 := Scalar.extui v248_r0
  let v250_r0 : BitVec 32 := Scalar.subi v247_r0 v249_r0
  let c8_i32_175_r0 : BitVec 32 := 8#32
  let c0_i32_178_r0 : BitVec 32 := 0#32
  let v251_r0 : BitVec 1 := Scalar.cmpi .sgt c8_i32_175_r0 c0_i32_178_r0
  let v252_r0 : BitVec 32 := Scalar.extui v251_r0
  let c0_i32_179_r0 : BitVec 32 := 0#32
  let v253_r0 : BitVec 1 := Scalar.cmpi .slt c8_i32_175_r0 c0_i32_179_r0
  let v254_r0 : BitVec 32 := Scalar.extui v253_r0
  let v255_r0 : BitVec 32 := Scalar.subi v252_r0 v254_r0
  let v256_r0 : BitVec 1 := Scalar.cmpi .ne v250_r0 v255_r0
  let v257_r0 : BitVec 32 := Scalar.remsi v216_r0 c8_i32_175_r0
  let c0_i32_180_r0 : BitVec 32 := 0#32
  let v258_r0 : BitVec 1 := Scalar.cmpi .ne v257_r0 c0_i32_180_r0
  let v259_r0 : BitVec 1 := Scalar.andi v256_r0 v258_r0
  let v245_r0 : BitVec 32 := Scalar.divsi v216_r0 c8_i32_175_r0
  let c1_i32_181_r0 : BitVec 32 := 1#32
  let v260_r0 : BitVec 32 := Scalar.subi v245_r0 c1_i32_181_r0
  let v261_r0 : BitVec 32 := Scalar.select v259_r0 v260_r0 v245_r0
  let c0_i32_163_r0 : BitVec 32 := 0#32
  let v234_r0 : BitVec 32 := Scalar.addi c0_i32_163_r0 v68
  let c0_i32_189_r0 : BitVec 32 := 0#32
  let v273_r0 : BitVec 1 := Scalar.cmpi .sgt v234_r0 c0_i32_189_r0
  let v274_r0 : BitVec 32 := Scalar.extui v273_r0
  let c0_i32_190_r0 : BitVec 32 := 0#32
  let v275_r0 : BitVec 1 := Scalar.cmpi .slt v234_r0 c0_i32_190_r0
  let v276_r0 : BitVec 32 := Scalar.extui v275_r0
  let v277_r0 : BitVec 32 := Scalar.subi v274_r0 v276_r0
  let c8_i32_188_r0 : BitVec 32 := 8#32
  let c0_i32_191_r0 : BitVec 32 := 0#32
  let v278_r0 : BitVec 1 := Scalar.cmpi .sgt c8_i32_188_r0 c0_i32_191_r0
  let v279_r0 : BitVec 32 := Scalar.extui v278_r0
  let c0_i32_192_r0 : BitVec 32 := 0#32
  let v280_r0 : BitVec 1 := Scalar.cmpi .slt c8_i32_188_r0 c0_i32_192_r0
  let v281_r0 : BitVec 32 := Scalar.extui v280_r0
  let v282_r0 : BitVec 32 := Scalar.subi v279_r0 v281_r0
  let v283_r0 : BitVec 1 := Scalar.cmpi .ne v277_r0 v282_r0
  let v284_r0 : BitVec 32 := Scalar.remsi v234_r0 c8_i32_188_r0
  let c0_i32_193_r0 : BitVec 32 := 0#32
  let v285_r0 : BitVec 1 := Scalar.cmpi .ne v284_r0 c0_i32_193_r0
  let v286_r0 : BitVec 1 := Scalar.andi v283_r0 v285_r0
  let v272_r0 : BitVec 32 := Scalar.divsi v234_r0 c8_i32_188_r0
  let c1_i32_194_r0 : BitVec 32 := 1#32
  let v287_r0 : BitVec 32 := Scalar.subi v272_r0 c1_i32_194_r0
  let v288_r0 : BitVec 32 := Scalar.select v286_r0 v287_r0 v272_r0
  let v299_r0 : BitVec 1 := Scalar.cmpi .ne v261_r0 v288_r0
  let c0_i32_144_r0 : BitVec 32 := 0#32
  let v217_r0 : BitVec 32 := Scalar.addi arg11_r0 c0_i32_144_r0
  let true_156_r0 : BitVec 1 := 1#1
  let c1_i32_155_r0 : BitVec 32 := 1#32
  let v227_r0 : BitVec 32 := Scalar.addi arg11_r0 c1_i32_155_r0
  let v228_r0 : BitVec 32 := Scalar.select true_156_r0 v227_r0 arg11_r0
  let c64_i32_157_r0 : BitVec 32 := 64#32
  let v229_r0 : BitVec 1 := Scalar.cmpi .eq v228_r0 c64_i32_157_r0
  let c0_i32_158_r0 : BitVec 32 := 0#32
  let v230_r0 : BitVec 32 := Scalar.select v229_r0 c0_i32_158_r0 v228_r0
  let c0_i32_164_r0 : BitVec 32 := 0#32
  let v235_r0 : BitVec 32 := Scalar.addi v230_r0 c0_i32_164_r0
  let v300_r0 : BitVec 1 := Scalar.cmpi .ne v217_r0 v235_r0
  let v302_r0 : BitVec 1 := Scalar.ori v299_r0 v300_r0
  let c8_i32_182_r0 : BitVec 32 := 8#32
  let c0_i32_183_r0 : BitVec 32 := 0#32
  let v262_r0 : BitVec 1 := Scalar.cmpi .eq c8_i32_182_r0 c0_i32_183_r0
  let c1_i32_184_r0 : BitVec 32 := 1#32
  let v263_r0 : BitVec 32 := Scalar.select v262_r0 c1_i32_184_r0 c8_i32_182_r0
  let v264_r0 : BitVec 32 := Scalar.remsi v216_r0 v263_r0
  let c0_i32_186_r0 : BitVec 32 := 0#32
  let v266_r0 : BitVec 1 := Scalar.cmpi .slt v264_r0 c0_i32_186_r0
  let c0_i32_187_r0 : BitVec 32 := 0#32
  let v267_r0 : BitVec 1 := Scalar.cmpi .slt v263_r0 c0_i32_187_r0
  let v268_r0 : BitVec 1 := Scalar.xori v266_r0 v267_r0
  let c0_i32_185_r0 : BitVec 32 := 0#32
  let v265_r0 : BitVec 1 := Scalar.cmpi .ne v264_r0 c0_i32_185_r0
  let v269_r0 : BitVec 1 := Scalar.andi v268_r0 v265_r0
  let v270_r0 : BitVec 32 := Scalar.addi v264_r0 v263_r0
  let v271_r0 : BitVec 32 := Scalar.select v269_r0 v270_r0 v264_r0
  let c8_i32_195_r0 : BitVec 32 := 8#32
  let c0_i32_196_r0 : BitVec 32 := 0#32
  let v289_r0 : BitVec 1 := Scalar.cmpi .eq c8_i32_195_r0 c0_i32_196_r0
  let c1_i32_197_r0 : BitVec 32 := 1#32
  let v290_r0 : BitVec 32 := Scalar.select v289_r0 c1_i32_197_r0 c8_i32_195_r0
  let v291_r0 : BitVec 32 := Scalar.remsi v234_r0 v290_r0
  let c0_i32_199_r0 : BitVec 32 := 0#32
  let v293_r0 : BitVec 1 := Scalar.cmpi .slt v291_r0 c0_i32_199_r0
  let c0_i32_200_r0 : BitVec 32 := 0#32
  let v294_r0 : BitVec 1 := Scalar.cmpi .slt v290_r0 c0_i32_200_r0
  let v295_r0 : BitVec 1 := Scalar.xori v293_r0 v294_r0
  let c0_i32_198_r0 : BitVec 32 := 0#32
  let v292_r0 : BitVec 1 := Scalar.cmpi .ne v291_r0 c0_i32_198_r0
  let v296_r0 : BitVec 1 := Scalar.andi v295_r0 v292_r0
  let v297_r0 : BitVec 32 := Scalar.addi v291_r0 v290_r0
  let v298_r0 : BitVec 32 := Scalar.select v296_r0 v297_r0 v291_r0
  let v301_r0 : BitVec 1 := Scalar.cmpi .ne v271_r0 v298_r0
  let v303_r0 : BitVec 1 := Scalar.ori v302_r0 v301_r0
  let c0_i32_75_r0 : BitVec 32 := 0#32
  let c1_i32_77_r0 : BitVec 32 := 1#32
  let arg5_r0 : BitVec 32 := Scf.iv c0_i32_75_r0 c1_i32_77_r0 k0_t1
  let c63_i32_201_r0 : BitVec 32 := 63#32
  let v304_r0 : BitVec 1 := Scalar.cmpi .sge arg5_r0 c63_i32_201_r0
  let true_202_r0 : BitVec 1 := 1#1
  let v305_r0 : BitVec 1 := Scalar.xori v304_r0 true_202_r0
  let v306_r0 : BitVec 1 := Scalar.andi v303_r0 v305_r0
  let true_203_r0 : BitVec 1 := 1#1
  let v307_r0 : BitVec 1 := Scalar.andi v306_r0 true_203_r0
  let v308_r0 : BitVec 32 := Scalar.extui v307_r0
  let c0_i32_204_r0 : BitVec 32 := 0#32
  let v309_r0 : BitVec 1 := Scalar.cmpi .ne v308_r0 c0_i32_204_r0
  v309_r0

def k0_off5 (i : grid0.Coords) (arg11_r0 : BitVec 32) : Fin 3 → Nat :=
  let c1_i32_338_r0 : BitVec 32 := 1#32
  let c0_i32_163_r0 : BitVec 32 := 0#32
  let c0_i32 : BitVec 32 := 0#32
  let arg1 : BitVec 32 := BitVec.ofNat 32 (i 1).val
  let c1_i32 : BitVec 32 := 1#32
  let v64 : BitVec 32 := Scalar.muli arg1 c1_i32
  let v65 : BitVec 32 := Scalar.addi c0_i32 v64
  let arg0 : BitVec 32 := BitVec.ofNat 32 (i 0).val
  let c16_i32 : BitVec 32 := 16#32
  let v66 : BitVec 32 := Scalar.muli arg0 c16_i32
  let v67 : BitVec 32 := Scalar.addi v65 v66
  let c1_i32_15 : BitVec 32 := 1#32
  let v68 : BitVec 32 := Scalar.muli v67 c1_i32_15
  let v234_r0 : BitVec 32 := Scalar.addi c0_i32_163_r0 v68
  let c0_i32_326_r0 : BitVec 32 := 0#32
  let v592_r0 : BitVec 1 := Scalar.cmpi .sgt v234_r0 c0_i32_326_r0
  let v593_r0 : BitVec 32 := Scalar.extui v592_r0
  let c0_i32_327_r0 : BitVec 32 := 0#32
  let v594_r0 : BitVec 1 := Scalar.cmpi .slt v234_r0 c0_i32_327_r0
  let v595_r0 : BitVec 32 := Scalar.extui v594_r0
  let v596_r0 : BitVec 32 := Scalar.subi v593_r0 v595_r0
  let c8_i32_325_r0 : BitVec 32 := 8#32
  let c0_i32_328_r0 : BitVec 32 := 0#32
  let v597_r0 : BitVec 1 := Scalar.cmpi .sgt c8_i32_325_r0 c0_i32_328_r0
  let v598_r0 : BitVec 32 := Scalar.extui v597_r0
  let c0_i32_329_r0 : BitVec 32 := 0#32
  let v599_r0 : BitVec 1 := Scalar.cmpi .slt c8_i32_325_r0 c0_i32_329_r0
  let v600_r0 : BitVec 32 := Scalar.extui v599_r0
  let v601_r0 : BitVec 32 := Scalar.subi v598_r0 v600_r0
  let v602_r0 : BitVec 1 := Scalar.cmpi .ne v596_r0 v601_r0
  let v603_r0 : BitVec 32 := Scalar.remsi v234_r0 c8_i32_325_r0
  let c0_i32_330_r0 : BitVec 32 := 0#32
  let v604_r0 : BitVec 1 := Scalar.cmpi .ne v603_r0 c0_i32_330_r0
  let v605_r0 : BitVec 1 := Scalar.andi v602_r0 v604_r0
  let v591_r0 : BitVec 32 := Scalar.divsi v234_r0 c8_i32_325_r0
  let c1_i32_331_r0 : BitVec 32 := 1#32
  let v606_r0 : BitVec 32 := Scalar.subi v591_r0 c1_i32_331_r0
  let v607_r0 : BitVec 32 := Scalar.select v605_r0 v606_r0 v591_r0
  let v618_r0 : BitVec 32 := Scalar.muli c1_i32_338_r0 v607_r0
  let c64_i32_339_r0 : BitVec 32 := 64#32
  let true_156_r0 : BitVec 1 := 1#1
  let c1_i32_155_r0 : BitVec 32 := 1#32
  let v227_r0 : BitVec 32 := Scalar.addi arg11_r0 c1_i32_155_r0
  let v228_r0 : BitVec 32 := Scalar.select true_156_r0 v227_r0 arg11_r0
  let c64_i32_157_r0 : BitVec 32 := 64#32
  let v229_r0 : BitVec 1 := Scalar.cmpi .eq v228_r0 c64_i32_157_r0
  let c0_i32_158_r0 : BitVec 32 := 0#32
  let v230_r0 : BitVec 32 := Scalar.select v229_r0 c0_i32_158_r0 v228_r0
  let c0_i32_164_r0 : BitVec 32 := 0#32
  let v235_r0 : BitVec 32 := Scalar.addi v230_r0 c0_i32_164_r0
  let v619_r0 : BitVec 32 := Scalar.muli c64_i32_339_r0 v235_r0
  let c256_i32_340_r0 : BitVec 32 := 256#32
  let c8_i32_332_r0 : BitVec 32 := 8#32
  let c0_i32_333_r0 : BitVec 32 := 0#32
  let v608_r0 : BitVec 1 := Scalar.cmpi .eq c8_i32_332_r0 c0_i32_333_r0
  let c1_i32_334_r0 : BitVec 32 := 1#32
  let v609_r0 : BitVec 32 := Scalar.select v608_r0 c1_i32_334_r0 c8_i32_332_r0
  let v610_r0 : BitVec 32 := Scalar.remsi v234_r0 v609_r0
  let c0_i32_336_r0 : BitVec 32 := 0#32
  let v612_r0 : BitVec 1 := Scalar.cmpi .slt v610_r0 c0_i32_336_r0
  let c0_i32_337_r0 : BitVec 32 := 0#32
  let v613_r0 : BitVec 1 := Scalar.cmpi .slt v609_r0 c0_i32_337_r0
  let v614_r0 : BitVec 1 := Scalar.xori v612_r0 v613_r0
  let c0_i32_335_r0 : BitVec 32 := 0#32
  let v611_r0 : BitVec 1 := Scalar.cmpi .ne v610_r0 c0_i32_335_r0
  let v615_r0 : BitVec 1 := Scalar.andi v614_r0 v611_r0
  let v616_r0 : BitVec 32 := Scalar.addi v610_r0 v609_r0
  let v617_r0 : BitVec 32 := Scalar.select v615_r0 v616_r0 v610_r0
  let v620_r0 : BitVec 32 := Scalar.muli c256_i32_340_r0 v617_r0
  ![v618_r0.toNat, v619_r0.toNat, v620_r0.toNat]
def k0_off6 (arg6_r0 : BitVec 32) : Fin 1 → Nat :=
  let c2_i32_324_r0 : BitVec 32 := 2#32
  let v590_r0 : BitVec 32 := Scalar.remui arg6_r0 c2_i32_324_r0
  ![v590_r0.toNat]
def k0_off7 (arg7_r0 : BitVec 32) : Fin 4 → Nat :=
  let c2_i32_340_r0 : BitVec 32 := 2#32
  let v620_r0 : BitVec 32 := Scalar.remui arg7_r0 c2_i32_340_r0
  let c0_i32_341_r0 : BitVec 32 := 0#32
  let c0_i32_342_r0 : BitVec 32 := 0#32
  let c0_i32_343_r0 : BitVec 32 := 0#32
  ![v620_r0.toNat, 0, 0, 0]
def k0_cond2 (i : grid0.Coords) (k0_t1 : Fin k0_t1_loop.trips) (arg11_r0 : BitVec 32) : BitVec 1 :=
  let c0_i32_143_r0 : BitVec 32 := 0#32
  let c0_i32 : BitVec 32 := 0#32
  let arg1 : BitVec 32 := BitVec.ofNat 32 (i 1).val
  let c1_i32 : BitVec 32 := 1#32
  let v64 : BitVec 32 := Scalar.muli arg1 c1_i32
  let v65 : BitVec 32 := Scalar.addi c0_i32 v64
  let arg0 : BitVec 32 := BitVec.ofNat 32 (i 0).val
  let c16_i32 : BitVec 32 := 16#32
  let v66 : BitVec 32 := Scalar.muli arg0 c16_i32
  let v67 : BitVec 32 := Scalar.addi v65 v66
  let c1_i32_15 : BitVec 32 := 1#32
  let v68 : BitVec 32 := Scalar.muli v67 c1_i32_15
  let v216_r0 : BitVec 32 := Scalar.addi c0_i32_143_r0 v68
  let c0_i32_176_r0 : BitVec 32 := 0#32
  let v246_r0 : BitVec 1 := Scalar.cmpi .sgt v216_r0 c0_i32_176_r0
  let v247_r0 : BitVec 32 := Scalar.extui v246_r0
  let c0_i32_177_r0 : BitVec 32 := 0#32
  let v248_r0 : BitVec 1 := Scalar.cmpi .slt v216_r0 c0_i32_177_r0
  let v249_r0 : BitVec 32 := Scalar.extui v248_r0
  let v250_r0 : BitVec 32 := Scalar.subi v247_r0 v249_r0
  let c8_i32_175_r0 : BitVec 32 := 8#32
  let c0_i32_178_r0 : BitVec 32 := 0#32
  let v251_r0 : BitVec 1 := Scalar.cmpi .sgt c8_i32_175_r0 c0_i32_178_r0
  let v252_r0 : BitVec 32 := Scalar.extui v251_r0
  let c0_i32_179_r0 : BitVec 32 := 0#32
  let v253_r0 : BitVec 1 := Scalar.cmpi .slt c8_i32_175_r0 c0_i32_179_r0
  let v254_r0 : BitVec 32 := Scalar.extui v253_r0
  let v255_r0 : BitVec 32 := Scalar.subi v252_r0 v254_r0
  let v256_r0 : BitVec 1 := Scalar.cmpi .ne v250_r0 v255_r0
  let v257_r0 : BitVec 32 := Scalar.remsi v216_r0 c8_i32_175_r0
  let c0_i32_180_r0 : BitVec 32 := 0#32
  let v258_r0 : BitVec 1 := Scalar.cmpi .ne v257_r0 c0_i32_180_r0
  let v259_r0 : BitVec 1 := Scalar.andi v256_r0 v258_r0
  let v245_r0 : BitVec 32 := Scalar.divsi v216_r0 c8_i32_175_r0
  let c1_i32_181_r0 : BitVec 32 := 1#32
  let v260_r0 : BitVec 32 := Scalar.subi v245_r0 c1_i32_181_r0
  let v261_r0 : BitVec 32 := Scalar.select v259_r0 v260_r0 v245_r0
  let c0_i32_153_r0 : BitVec 32 := 0#32
  let v225_r0 : BitVec 32 := Scalar.addi c0_i32_153_r0 v68
  let c0_i32_236_r0 : BitVec 32 := 0#32
  let v376_r0 : BitVec 1 := Scalar.cmpi .sgt v225_r0 c0_i32_236_r0
  let v377_r0 : BitVec 32 := Scalar.extui v376_r0
  let c0_i32_237_r0 : BitVec 32 := 0#32
  let v378_r0 : BitVec 1 := Scalar.cmpi .slt v225_r0 c0_i32_237_r0
  let v379_r0 : BitVec 32 := Scalar.extui v378_r0
  let v380_r0 : BitVec 32 := Scalar.subi v377_r0 v379_r0
  let c8_i32_235_r0 : BitVec 32 := 8#32
  let c0_i32_238_r0 : BitVec 32 := 0#32
  let v381_r0 : BitVec 1 := Scalar.cmpi .sgt c8_i32_235_r0 c0_i32_238_r0
  let v382_r0 : BitVec 32 := Scalar.extui v381_r0
  let c0_i32_239_r0 : BitVec 32 := 0#32
  let v383_r0 : BitVec 1 := Scalar.cmpi .slt c8_i32_235_r0 c0_i32_239_r0
  let v384_r0 : BitVec 32 := Scalar.extui v383_r0
  let v385_r0 : BitVec 32 := Scalar.subi v382_r0 v384_r0
  let v386_r0 : BitVec 1 := Scalar.cmpi .ne v380_r0 v385_r0
  let v387_r0 : BitVec 32 := Scalar.remsi v225_r0 c8_i32_235_r0
  let c0_i32_240_r0 : BitVec 32 := 0#32
  let v388_r0 : BitVec 1 := Scalar.cmpi .ne v387_r0 c0_i32_240_r0
  let v389_r0 : BitVec 1 := Scalar.andi v386_r0 v388_r0
  let v375_r0 : BitVec 32 := Scalar.divsi v225_r0 c8_i32_235_r0
  let c1_i32_241_r0 : BitVec 32 := 1#32
  let v390_r0 : BitVec 32 := Scalar.subi v375_r0 c1_i32_241_r0
  let v391_r0 : BitVec 32 := Scalar.select v389_r0 v390_r0 v375_r0
  let v402_r0 : BitVec 1 := Scalar.cmpi .ne v261_r0 v391_r0
  let c0_i32_144_r0 : BitVec 32 := 0#32
  let v217_r0 : BitVec 32 := Scalar.addi arg11_r0 c0_i32_144_r0
  let true_146_r0 : BitVec 1 := 1#1
  let c1_i32_145_r0 : BitVec 32 := 1#32
  let v218_r0 : BitVec 32 := Scalar.subi arg11_r0 c1_i32_145_r0
  let v219_r0 : BitVec 32 := Scalar.select true_146_r0 v218_r0 arg11_r0
  let c_m1_i32_147_r0 : BitVec 32 := 4294967295#32
  let v220_r0 : BitVec 1 := Scalar.cmpi .eq v219_r0 c_m1_i32_147_r0
  let c63_i32_148_r0 : BitVec 32 := 63#32
  let v221_r0 : BitVec 32 := Scalar.select v220_r0 c63_i32_148_r0 v219_r0
  let c0_i32_154_r0 : BitVec 32 := 0#32
  let v226_r0 : BitVec 32 := Scalar.addi v221_r0 c0_i32_154_r0
  let v403_r0 : BitVec 1 := Scalar.cmpi .ne v217_r0 v226_r0
  let v405_r0 : BitVec 1 := Scalar.ori v402_r0 v403_r0
  let c8_i32_182_r0 : BitVec 32 := 8#32
  let c0_i32_183_r0 : BitVec 32 := 0#32
  let v262_r0 : BitVec 1 := Scalar.cmpi .eq c8_i32_182_r0 c0_i32_183_r0
  let c1_i32_184_r0 : BitVec 32 := 1#32
  let v263_r0 : BitVec 32 := Scalar.select v262_r0 c1_i32_184_r0 c8_i32_182_r0
  let v264_r0 : BitVec 32 := Scalar.remsi v216_r0 v263_r0
  let c0_i32_186_r0 : BitVec 32 := 0#32
  let v266_r0 : BitVec 1 := Scalar.cmpi .slt v264_r0 c0_i32_186_r0
  let c0_i32_187_r0 : BitVec 32 := 0#32
  let v267_r0 : BitVec 1 := Scalar.cmpi .slt v263_r0 c0_i32_187_r0
  let v268_r0 : BitVec 1 := Scalar.xori v266_r0 v267_r0
  let c0_i32_185_r0 : BitVec 32 := 0#32
  let v265_r0 : BitVec 1 := Scalar.cmpi .ne v264_r0 c0_i32_185_r0
  let v269_r0 : BitVec 1 := Scalar.andi v268_r0 v265_r0
  let v270_r0 : BitVec 32 := Scalar.addi v264_r0 v263_r0
  let v271_r0 : BitVec 32 := Scalar.select v269_r0 v270_r0 v264_r0
  let c8_i32_242_r0 : BitVec 32 := 8#32
  let c0_i32_243_r0 : BitVec 32 := 0#32
  let v392_r0 : BitVec 1 := Scalar.cmpi .eq c8_i32_242_r0 c0_i32_243_r0
  let c1_i32_244_r0 : BitVec 32 := 1#32
  let v393_r0 : BitVec 32 := Scalar.select v392_r0 c1_i32_244_r0 c8_i32_242_r0
  let v394_r0 : BitVec 32 := Scalar.remsi v225_r0 v393_r0
  let c0_i32_246_r0 : BitVec 32 := 0#32
  let v396_r0 : BitVec 1 := Scalar.cmpi .slt v394_r0 c0_i32_246_r0
  let c0_i32_247_r0 : BitVec 32 := 0#32
  let v397_r0 : BitVec 1 := Scalar.cmpi .slt v393_r0 c0_i32_247_r0
  let v398_r0 : BitVec 1 := Scalar.xori v396_r0 v397_r0
  let c0_i32_245_r0 : BitVec 32 := 0#32
  let v395_r0 : BitVec 1 := Scalar.cmpi .ne v394_r0 c0_i32_245_r0
  let v399_r0 : BitVec 1 := Scalar.andi v398_r0 v395_r0
  let v400_r0 : BitVec 32 := Scalar.addi v394_r0 v393_r0
  let v401_r0 : BitVec 32 := Scalar.select v399_r0 v400_r0 v394_r0
  let v404_r0 : BitVec 1 := Scalar.cmpi .ne v271_r0 v401_r0
  let v406_r0 : BitVec 1 := Scalar.ori v405_r0 v404_r0
  let c0_i32_75_r0 : BitVec 32 := 0#32
  let c1_i32_77_r0 : BitVec 32 := 1#32
  let arg5_r0 : BitVec 32 := Scf.iv c0_i32_75_r0 c1_i32_77_r0 k0_t1
  let c0_i32_141_r0 : BitVec 32 := 0#32
  let v214_r0 : BitVec 1 := Scalar.cmpi .eq arg5_r0 c0_i32_141_r0
  let v407_r0 : BitVec 1 := Scalar.ori v406_r0 v214_r0
  let c0_i32_248_r0 : BitVec 32 := 0#32
  let v408_r0 : BitVec 1 := Scalar.cmpi .sge arg5_r0 c0_i32_248_r0
  let v409_r0 : BitVec 1 := Scalar.andi v407_r0 v408_r0
  let v410_r0 : BitVec 32 := Scalar.extui v409_r0
  let c0_i32_249_r0 : BitVec 32 := 0#32
  let v411_r0 : BitVec 1 := Scalar.cmpi .ne v410_r0 c0_i32_249_r0
  v411_r0

def k0_off8 (i : grid0.Coords) (arg11_r0 : BitVec 32) : Fin 3 → Nat :=
  let c1_i32_337_r0 : BitVec 32 := 1#32
  let c0_i32_143_r0 : BitVec 32 := 0#32
  let c0_i32 : BitVec 32 := 0#32
  let arg1 : BitVec 32 := BitVec.ofNat 32 (i 1).val
  let c1_i32 : BitVec 32 := 1#32
  let v64 : BitVec 32 := Scalar.muli arg1 c1_i32
  let v65 : BitVec 32 := Scalar.addi c0_i32 v64
  let arg0 : BitVec 32 := BitVec.ofNat 32 (i 0).val
  let c16_i32 : BitVec 32 := 16#32
  let v66 : BitVec 32 := Scalar.muli arg0 c16_i32
  let v67 : BitVec 32 := Scalar.addi v65 v66
  let c1_i32_15 : BitVec 32 := 1#32
  let v68 : BitVec 32 := Scalar.muli v67 c1_i32_15
  let v216_r0 : BitVec 32 := Scalar.addi c0_i32_143_r0 v68
  let c0_i32_325_r0 : BitVec 32 := 0#32
  let v591_r0 : BitVec 1 := Scalar.cmpi .sgt v216_r0 c0_i32_325_r0
  let v592_r0 : BitVec 32 := Scalar.extui v591_r0
  let c0_i32_326_r0 : BitVec 32 := 0#32
  let v593_r0 : BitVec 1 := Scalar.cmpi .slt v216_r0 c0_i32_326_r0
  let v594_r0 : BitVec 32 := Scalar.extui v593_r0
  let v595_r0 : BitVec 32 := Scalar.subi v592_r0 v594_r0
  let c8_i32_324_r0 : BitVec 32 := 8#32
  let c0_i32_327_r0 : BitVec 32 := 0#32
  let v596_r0 : BitVec 1 := Scalar.cmpi .sgt c8_i32_324_r0 c0_i32_327_r0
  let v597_r0 : BitVec 32 := Scalar.extui v596_r0
  let c0_i32_328_r0 : BitVec 32 := 0#32
  let v598_r0 : BitVec 1 := Scalar.cmpi .slt c8_i32_324_r0 c0_i32_328_r0
  let v599_r0 : BitVec 32 := Scalar.extui v598_r0
  let v600_r0 : BitVec 32 := Scalar.subi v597_r0 v599_r0
  let v601_r0 : BitVec 1 := Scalar.cmpi .ne v595_r0 v600_r0
  let v602_r0 : BitVec 32 := Scalar.remsi v216_r0 c8_i32_324_r0
  let c0_i32_329_r0 : BitVec 32 := 0#32
  let v603_r0 : BitVec 1 := Scalar.cmpi .ne v602_r0 c0_i32_329_r0
  let v604_r0 : BitVec 1 := Scalar.andi v601_r0 v603_r0
  let v590_r0 : BitVec 32 := Scalar.divsi v216_r0 c8_i32_324_r0
  let c1_i32_330_r0 : BitVec 32 := 1#32
  let v605_r0 : BitVec 32 := Scalar.subi v590_r0 c1_i32_330_r0
  let v606_r0 : BitVec 32 := Scalar.select v604_r0 v605_r0 v590_r0
  let v617_r0 : BitVec 32 := Scalar.muli c1_i32_337_r0 v606_r0
  let c64_i32_338_r0 : BitVec 32 := 64#32
  let c0_i32_144_r0 : BitVec 32 := 0#32
  let v217_r0 : BitVec 32 := Scalar.addi arg11_r0 c0_i32_144_r0
  let v618_r0 : BitVec 32 := Scalar.muli c64_i32_338_r0 v217_r0
  let c256_i32_339_r0 : BitVec 32 := 256#32
  let c8_i32_331_r0 : BitVec 32 := 8#32
  let c0_i32_332_r0 : BitVec 32 := 0#32
  let v607_r0 : BitVec 1 := Scalar.cmpi .eq c8_i32_331_r0 c0_i32_332_r0
  let c1_i32_333_r0 : BitVec 32 := 1#32
  let v608_r0 : BitVec 32 := Scalar.select v607_r0 c1_i32_333_r0 c8_i32_331_r0
  let v609_r0 : BitVec 32 := Scalar.remsi v216_r0 v608_r0
  let c0_i32_335_r0 : BitVec 32 := 0#32
  let v611_r0 : BitVec 1 := Scalar.cmpi .slt v609_r0 c0_i32_335_r0
  let c0_i32_336_r0 : BitVec 32 := 0#32
  let v612_r0 : BitVec 1 := Scalar.cmpi .slt v608_r0 c0_i32_336_r0
  let v613_r0 : BitVec 1 := Scalar.xori v611_r0 v612_r0
  let c0_i32_334_r0 : BitVec 32 := 0#32
  let v610_r0 : BitVec 1 := Scalar.cmpi .ne v609_r0 c0_i32_334_r0
  let v614_r0 : BitVec 1 := Scalar.andi v613_r0 v610_r0
  let v615_r0 : BitVec 32 := Scalar.addi v609_r0 v608_r0
  let v616_r0 : BitVec 32 := Scalar.select v614_r0 v615_r0 v609_r0
  let v619_r0 : BitVec 32 := Scalar.muli c256_i32_339_r0 v616_r0
  ![v617_r0.toNat, v618_r0.toNat, v619_r0.toNat]
def k0_off9 (arg7_r0 : BitVec 32) : Fin 1 → Nat :=
  let c2_i32_340_r0 : BitVec 32 := 2#32
  let v620_r0 : BitVec 32 := Scalar.remui arg7_r0 c2_i32_340_r0
  ![v620_r0.toNat]
@[reducible] def k0_t2_loop : Scf.Loop 32 :=
  let c0_i32_283_r0 : BitVec 32 := 0#32
  let c64_i32_284_r0 : BitVec 32 := 64#32
  let v483_r0 : BitVec 32 := Scalar.addi c0_i32_283_r0 c64_i32_284_r0
  let c1_i32_285_r0 : BitVec 32 := 1#32
  ⟨c0_i32_283_r0, v483_r0, c1_i32_285_r0⟩
def k0_off10 (arg8_r0 : BitVec 32) : Fin 4 → Nat :=
  let c2_i32_266_r0 : BitVec 32 := 2#32
  let v450_r0 : BitVec 32 := Scalar.remui arg8_r0 c2_i32_266_r0
  let c0_i32_325_r0 : BitVec 32 := 0#32
  let c0_i32_326_r0 : BitVec 32 := 0#32
  let c0_i32_327_r0 : BitVec 32 := 0#32
  ![v450_r0.toNat, 0, 0, 0]

def k0_chk2 (arg8_r0 : BitVec 32) : Prop :=
  (∀ a, (k0_off10 arg8_r0) a + S1x1x64x256.size a ≤ S2x1x64x256.size a)
theorem k0_off10_inb : ∀ (arg8_r0 : BitVec 32) (k0_hw2 : k0_chk2 arg8_r0), ∀ a, (k0_off10 arg8_r0) a + S1x1x64x256.size a ≤ S2x1x64x256.size a := fun arg8_r0 k0_hw2 => k0_hw2

def k0_off11 (k0_t2 : Fin k0_t2_loop.trips) : Fin 3 → Nat :=
  let c0_i32_324_r0 : BitVec 32 := 0#32
  let v592_r0 : Index := Scalar.indexCast c0_i32_324_r0
  let c0_i32_283_r0 : BitVec 32 := 0#32
  let c1_i32_285_r0 : BitVec 32 := 1#32
  let arg12_r0 : BitVec 32 := Scf.iv c0_i32_283_r0 c1_i32_285_r0 k0_t2
  let v593_r0 : Index := Scalar.indexCast arg12_r0
  let c0_328_r0 : Index := 0#32
  ![0, v593_r0.toNat, 0]
def k0_off12 (arg7_r0 : BitVec 32) : Fin 4 → Nat :=
  let c2_i32_265_r0 : BitVec 32 := 2#32
  let v449_r0 : BitVec 32 := Scalar.remui arg7_r0 c2_i32_265_r0
  let c0_i32_330_r0 : BitVec 32 := 0#32
  let c0_i32_331_r0 : BitVec 32 := 0#32
  let c0_i32_332_r0 : BitVec 32 := 0#32
  ![v449_r0.toNat, 0, 0, 0]

def k0_chk3 (arg7_r0 : BitVec 32) : Prop :=
  (∀ a, (k0_off12 arg7_r0) a + S1x1x64x256.size a ≤ S2x1x64x256.size a)
theorem k0_off12_inb : ∀ (arg7_r0 : BitVec 32) (k0_hw3 : k0_chk3 arg7_r0), ∀ a, (k0_off12 arg7_r0) a + S1x1x64x256.size a ≤ S2x1x64x256.size a := fun arg7_r0 k0_hw3 => k0_hw3

def k0_off13 (k0_t2 : Fin k0_t2_loop.trips) : Fin 3 → Nat :=
  let c0_i32_334_r0 : BitVec 32 := 0#32
  let v606_r0 : Index := Scalar.indexCast c0_i32_334_r0
  let c0_i32_283_r0 : BitVec 32 := 0#32
  let c1_i32_285_r0 : BitVec 32 := 1#32
  let arg12_r0 : BitVec 32 := Scf.iv c0_i32_283_r0 c1_i32_285_r0 k0_t2
  let v607_r0 : Index := Scalar.indexCast arg12_r0
  let c16_338_r0 : Index := 16#32
  ![0, v607_r0.toNat, 16]
def k0_off14 (k0_t2 : Fin k0_t2_loop.trips) : Fin 3 → Nat :=
  let c0_i32_344_r0 : BitVec 32 := 0#32
  let v620_r0 : Index := Scalar.indexCast c0_i32_344_r0
  let c0_i32_283_r0 : BitVec 32 := 0#32
  let c1_i32_285_r0 : BitVec 32 := 1#32
  let arg12_r0 : BitVec 32 := Scf.iv c0_i32_283_r0 c1_i32_285_r0 k0_t2
  let v621_r0 : Index := Scalar.indexCast arg12_r0
  let c32_348_r0 : Index := 32#32
  ![0, v621_r0.toNat, 32]
def k0_off15 (k0_t2 : Fin k0_t2_loop.trips) : Fin 3 → Nat :=
  let c0_i32_354_r0 : BitVec 32 := 0#32
  let v634_r0 : Index := Scalar.indexCast c0_i32_354_r0
  let c0_i32_283_r0 : BitVec 32 := 0#32
  let c1_i32_285_r0 : BitVec 32 := 1#32
  let arg12_r0 : BitVec 32 := Scf.iv c0_i32_283_r0 c1_i32_285_r0 k0_t2
  let v635_r0 : Index := Scalar.indexCast arg12_r0
  let c48_358_r0 : Index := 48#32
  ![0, v635_r0.toNat, 48]
def k0_off16 (k0_t2 : Fin k0_t2_loop.trips) : Fin 3 → Nat :=
  let c0_i32_364_r0 : BitVec 32 := 0#32
  let v648_r0 : Index := Scalar.indexCast c0_i32_364_r0
  let c0_i32_283_r0 : BitVec 32 := 0#32
  let c1_i32_285_r0 : BitVec 32 := 1#32
  let arg12_r0 : BitVec 32 := Scf.iv c0_i32_283_r0 c1_i32_285_r0 k0_t2
  let v649_r0 : Index := Scalar.indexCast arg12_r0
  let c64_368_r0 : Index := 64#32
  ![0, v649_r0.toNat, 64]
def k0_off17 (k0_t2 : Fin k0_t2_loop.trips) : Fin 3 → Nat :=
  let c0_i32_374_r0 : BitVec 32 := 0#32
  let v662_r0 : Index := Scalar.indexCast c0_i32_374_r0
  let c0_i32_283_r0 : BitVec 32 := 0#32
  let c1_i32_285_r0 : BitVec 32 := 1#32
  let arg12_r0 : BitVec 32 := Scf.iv c0_i32_283_r0 c1_i32_285_r0 k0_t2
  let v663_r0 : Index := Scalar.indexCast arg12_r0
  let c80_378_r0 : Index := 80#32
  ![0, v663_r0.toNat, 80]
def k0_off18 (k0_t2 : Fin k0_t2_loop.trips) : Fin 3 → Nat :=
  let c0_i32_384_r0 : BitVec 32 := 0#32
  let v676_r0 : Index := Scalar.indexCast c0_i32_384_r0
  let c0_i32_283_r0 : BitVec 32 := 0#32
  let c1_i32_285_r0 : BitVec 32 := 1#32
  let arg12_r0 : BitVec 32 := Scf.iv c0_i32_283_r0 c1_i32_285_r0 k0_t2
  let v677_r0 : Index := Scalar.indexCast arg12_r0
  let c96_388_r0 : Index := 96#32
  ![0, v677_r0.toNat, 96]
def k0_off19 (k0_t2 : Fin k0_t2_loop.trips) : Fin 3 → Nat :=
  let c0_i32_394_r0 : BitVec 32 := 0#32
  let v690_r0 : Index := Scalar.indexCast c0_i32_394_r0
  let c0_i32_283_r0 : BitVec 32 := 0#32
  let c1_i32_285_r0 : BitVec 32 := 1#32
  let arg12_r0 : BitVec 32 := Scf.iv c0_i32_283_r0 c1_i32_285_r0 k0_t2
  let v691_r0 : Index := Scalar.indexCast arg12_r0
  let c112_398_r0 : Index := 112#32
  ![0, v691_r0.toNat, 112]
def k0_off20 (k0_t2 : Fin k0_t2_loop.trips) : Fin 3 → Nat :=
  let c0_i32_404_r0 : BitVec 32 := 0#32
  let v704_r0 : Index := Scalar.indexCast c0_i32_404_r0
  let c0_i32_283_r0 : BitVec 32 := 0#32
  let c1_i32_285_r0 : BitVec 32 := 1#32
  let arg12_r0 : BitVec 32 := Scf.iv c0_i32_283_r0 c1_i32_285_r0 k0_t2
  let v705_r0 : Index := Scalar.indexCast arg12_r0
  let c128_408_r0 : Index := 128#32
  ![0, v705_r0.toNat, 128]
def k0_off21 (k0_t2 : Fin k0_t2_loop.trips) : Fin 3 → Nat :=
  let c0_i32_414_r0 : BitVec 32 := 0#32
  let v718_r0 : Index := Scalar.indexCast c0_i32_414_r0
  let c0_i32_283_r0 : BitVec 32 := 0#32
  let c1_i32_285_r0 : BitVec 32 := 1#32
  let arg12_r0 : BitVec 32 := Scf.iv c0_i32_283_r0 c1_i32_285_r0 k0_t2
  let v719_r0 : Index := Scalar.indexCast arg12_r0
  let c144_418_r0 : Index := 144#32
  ![0, v719_r0.toNat, 144]
def k0_off22 (k0_t2 : Fin k0_t2_loop.trips) : Fin 3 → Nat :=
  let c0_i32_424_r0 : BitVec 32 := 0#32
  let v732_r0 : Index := Scalar.indexCast c0_i32_424_r0
  let c0_i32_283_r0 : BitVec 32 := 0#32
  let c1_i32_285_r0 : BitVec 32 := 1#32
  let arg12_r0 : BitVec 32 := Scf.iv c0_i32_283_r0 c1_i32_285_r0 k0_t2
  let v733_r0 : Index := Scalar.indexCast arg12_r0
  let c160_428_r0 : Index := 160#32
  ![0, v733_r0.toNat, 160]
def k0_off23 (k0_t2 : Fin k0_t2_loop.trips) : Fin 3 → Nat :=
  let c0_i32_434_r0 : BitVec 32 := 0#32
  let v746_r0 : Index := Scalar.indexCast c0_i32_434_r0
  let c0_i32_283_r0 : BitVec 32 := 0#32
  let c1_i32_285_r0 : BitVec 32 := 1#32
  let arg12_r0 : BitVec 32 := Scf.iv c0_i32_283_r0 c1_i32_285_r0 k0_t2
  let v747_r0 : Index := Scalar.indexCast arg12_r0
  let c176_438_r0 : Index := 176#32
  ![0, v747_r0.toNat, 176]
def k0_off24 (k0_t2 : Fin k0_t2_loop.trips) : Fin 3 → Nat :=
  let c0_i32_444_r0 : BitVec 32 := 0#32
  let v760_r0 : Index := Scalar.indexCast c0_i32_444_r0
  let c0_i32_283_r0 : BitVec 32 := 0#32
  let c1_i32_285_r0 : BitVec 32 := 1#32
  let arg12_r0 : BitVec 32 := Scf.iv c0_i32_283_r0 c1_i32_285_r0 k0_t2
  let v761_r0 : Index := Scalar.indexCast arg12_r0
  let c192_448_r0 : Index := 192#32
  ![0, v761_r0.toNat, 192]
def k0_off25 (k0_t2 : Fin k0_t2_loop.trips) : Fin 3 → Nat :=
  let c0_i32_454_r0 : BitVec 32 := 0#32
  let v774_r0 : Index := Scalar.indexCast c0_i32_454_r0
  let c0_i32_283_r0 : BitVec 32 := 0#32
  let c1_i32_285_r0 : BitVec 32 := 1#32
  let arg12_r0 : BitVec 32 := Scf.iv c0_i32_283_r0 c1_i32_285_r0 k0_t2
  let v775_r0 : Index := Scalar.indexCast arg12_r0
  let c208_458_r0 : Index := 208#32
  ![0, v775_r0.toNat, 208]
def k0_off26 (k0_t2 : Fin k0_t2_loop.trips) : Fin 3 → Nat :=
  let c0_i32_464_r0 : BitVec 32 := 0#32
  let v788_r0 : Index := Scalar.indexCast c0_i32_464_r0
  let c0_i32_283_r0 : BitVec 32 := 0#32
  let c1_i32_285_r0 : BitVec 32 := 1#32
  let arg12_r0 : BitVec 32 := Scf.iv c0_i32_283_r0 c1_i32_285_r0 k0_t2
  let v789_r0 : Index := Scalar.indexCast arg12_r0
  let c224_468_r0 : Index := 224#32
  ![0, v789_r0.toNat, 224]
def k0_off27 (k0_t2 : Fin k0_t2_loop.trips) : Fin 3 → Nat :=
  let c0_i32_474_r0 : BitVec 32 := 0#32
  let v802_r0 : Index := Scalar.indexCast c0_i32_474_r0
  let c0_i32_283_r0 : BitVec 32 := 0#32
  let c1_i32_285_r0 : BitVec 32 := 1#32
  let arg12_r0 : BitVec 32 := Scf.iv c0_i32_283_r0 c1_i32_285_r0 k0_t2
  let v803_r0 : Index := Scalar.indexCast arg12_r0
  let c240_478_r0 : Index := 240#32
  ![0, v803_r0.toNat, 240]
def k0_off28 (arg8_r0 : BitVec 32) : Fin 4 → Nat :=
  let c2_i32_324_r0 : BitVec 32 := 2#32
  let v590_r0 : BitVec 32 := Scalar.remui arg8_r0 c2_i32_324_r0
  let c0_i32_341_r0 : BitVec 32 := 0#32
  let c0_i32_342_r0 : BitVec 32 := 0#32
  let c0_i32_343_r0 : BitVec 32 := 0#32
  ![v590_r0.toNat, 0, 0, 0]
def k0_cond5 (i : grid0.Coords) (k0_t1 : Fin k0_t1_loop.trips) (arg11_r0 : BitVec 32) : BitVec 1 :=
  let c0_i32_143_r0 : BitVec 32 := 0#32
  let c0_i32 : BitVec 32 := 0#32
  let arg1 : BitVec 32 := BitVec.ofNat 32 (i 1).val
  let c1_i32 : BitVec 32 := 1#32
  let v64 : BitVec 32 := Scalar.muli arg1 c1_i32
  let v65 : BitVec 32 := Scalar.addi c0_i32 v64
  let arg0 : BitVec 32 := BitVec.ofNat 32 (i 0).val
  let c16_i32 : BitVec 32 := 16#32
  let v66 : BitVec 32 := Scalar.muli arg0 c16_i32
  let v67 : BitVec 32 := Scalar.addi v65 v66
  let c1_i32_15 : BitVec 32 := 1#32
  let v68 : BitVec 32 := Scalar.muli v67 c1_i32_15
  let v216_r0 : BitVec 32 := Scalar.addi c0_i32_143_r0 v68
  let c0_i32_208_r0 : BitVec 32 := 0#32
  let v314_r0 : BitVec 1 := Scalar.cmpi .sgt v216_r0 c0_i32_208_r0
  let v315_r0 : BitVec 32 := Scalar.extui v314_r0
  let c0_i32_209_r0 : BitVec 32 := 0#32
  let v316_r0 : BitVec 1 := Scalar.cmpi .slt v216_r0 c0_i32_209_r0
  let v317_r0 : BitVec 32 := Scalar.extui v316_r0
  let v318_r0 : BitVec 32 := Scalar.subi v315_r0 v317_r0
  let c8_i32_207_r0 : BitVec 32 := 8#32
  let c0_i32_210_r0 : BitVec 32 := 0#32
  let v319_r0 : BitVec 1 := Scalar.cmpi .sgt c8_i32_207_r0 c0_i32_210_r0
  let v320_r0 : BitVec 32 := Scalar.extui v319_r0
  let c0_i32_211_r0 : BitVec 32 := 0#32
  let v321_r0 : BitVec 1 := Scalar.cmpi .slt c8_i32_207_r0 c0_i32_211_r0
  let v322_r0 : BitVec 32 := Scalar.extui v321_r0
  let v323_r0 : BitVec 32 := Scalar.subi v320_r0 v322_r0
  let v324_r0 : BitVec 1 := Scalar.cmpi .ne v318_r0 v323_r0
  let v325_r0 : BitVec 32 := Scalar.remsi v216_r0 c8_i32_207_r0
  let c0_i32_212_r0 : BitVec 32 := 0#32
  let v326_r0 : BitVec 1 := Scalar.cmpi .ne v325_r0 c0_i32_212_r0
  let v327_r0 : BitVec 1 := Scalar.andi v324_r0 v326_r0
  let v313_r0 : BitVec 32 := Scalar.divsi v216_r0 c8_i32_207_r0
  let c1_i32_213_r0 : BitVec 32 := 1#32
  let v328_r0 : BitVec 32 := Scalar.subi v313_r0 c1_i32_213_r0
  let v329_r0 : BitVec 32 := Scalar.select v327_r0 v328_r0 v313_r0
  let c0_i32_163_r0 : BitVec 32 := 0#32
  let v234_r0 : BitVec 32 := Scalar.addi c0_i32_163_r0 v68
  let c0_i32_221_r0 : BitVec 32 := 0#32
  let v341_r0 : BitVec 1 := Scalar.cmpi .sgt v234_r0 c0_i32_221_r0
  let v342_r0 : BitVec 32 := Scalar.extui v341_r0
  let c0_i32_222_r0 : BitVec 32 := 0#32
  let v343_r0 : BitVec 1 := Scalar.cmpi .slt v234_r0 c0_i32_222_r0
  let v344_r0 : BitVec 32 := Scalar.extui v343_r0
  let v345_r0 : BitVec 32 := Scalar.subi v342_r0 v344_r0
  let c8_i32_220_r0 : BitVec 32 := 8#32
  let c0_i32_223_r0 : BitVec 32 := 0#32
  let v346_r0 : BitVec 1 := Scalar.cmpi .sgt c8_i32_220_r0 c0_i32_223_r0
  let v347_r0 : BitVec 32 := Scalar.extui v346_r0
  let c0_i32_224_r0 : BitVec 32 := 0#32
  let v348_r0 : BitVec 1 := Scalar.cmpi .slt c8_i32_220_r0 c0_i32_224_r0
  let v349_r0 : BitVec 32 := Scalar.extui v348_r0
  let v350_r0 : BitVec 32 := Scalar.subi v347_r0 v349_r0
  let v351_r0 : BitVec 1 := Scalar.cmpi .ne v345_r0 v350_r0
  let v352_r0 : BitVec 32 := Scalar.remsi v234_r0 c8_i32_220_r0
  let c0_i32_225_r0 : BitVec 32 := 0#32
  let v353_r0 : BitVec 1 := Scalar.cmpi .ne v352_r0 c0_i32_225_r0
  let v354_r0 : BitVec 1 := Scalar.andi v351_r0 v353_r0
  let v340_r0 : BitVec 32 := Scalar.divsi v234_r0 c8_i32_220_r0
  let c1_i32_226_r0 : BitVec 32 := 1#32
  let v355_r0 : BitVec 32 := Scalar.subi v340_r0 c1_i32_226_r0
  let v356_r0 : BitVec 32 := Scalar.select v354_r0 v355_r0 v340_r0
  let v542_r0 : BitVec 1 := Scalar.cmpi .ne v329_r0 v356_r0
  let c0_i32_144_r0 : BitVec 32 := 0#32
  let v217_r0 : BitVec 32 := Scalar.addi arg11_r0 c0_i32_144_r0
  let true_156_r0 : BitVec 1 := 1#1
  let c1_i32_155_r0 : BitVec 32 := 1#32
  let v227_r0 : BitVec 32 := Scalar.addi arg11_r0 c1_i32_155_r0
  let v228_r0 : BitVec 32 := Scalar.select true_156_r0 v227_r0 arg11_r0
  let c64_i32_157_r0 : BitVec 32 := 64#32
  let v229_r0 : BitVec 1 := Scalar.cmpi .eq v228_r0 c64_i32_157_r0
  let c0_i32_158_r0 : BitVec 32 := 0#32
  let v230_r0 : BitVec 32 := Scalar.select v229_r0 c0_i32_158_r0 v228_r0
  let c0_i32_164_r0 : BitVec 32 := 0#32
  let v235_r0 : BitVec 32 := Scalar.addi v230_r0 c0_i32_164_r0
  let v543_r0 : BitVec 1 := Scalar.cmpi .ne v217_r0 v235_r0
  let v545_r0 : BitVec 1 := Scalar.ori v542_r0 v543_r0
  let c8_i32_214_r0 : BitVec 32 := 8#32
  let c0_i32_215_r0 : BitVec 32 := 0#32
  let v330_r0 : BitVec 1 := Scalar.cmpi .eq c8_i32_214_r0 c0_i32_215_r0
  let c1_i32_216_r0 : BitVec 32 := 1#32
  let v331_r0 : BitVec 32 := Scalar.select v330_r0 c1_i32_216_r0 c8_i32_214_r0
  let v332_r0 : BitVec 32 := Scalar.remsi v216_r0 v331_r0
  let c0_i32_218_r0 : BitVec 32 := 0#32
  let v334_r0 : BitVec 1 := Scalar.cmpi .slt v332_r0 c0_i32_218_r0
  let c0_i32_219_r0 : BitVec 32 := 0#32
  let v335_r0 : BitVec 1 := Scalar.cmpi .slt v331_r0 c0_i32_219_r0
  let v336_r0 : BitVec 1 := Scalar.xori v334_r0 v335_r0
  let c0_i32_217_r0 : BitVec 32 := 0#32
  let v333_r0 : BitVec 1 := Scalar.cmpi .ne v332_r0 c0_i32_217_r0
  let v337_r0 : BitVec 1 := Scalar.andi v336_r0 v333_r0
  let v338_r0 : BitVec 32 := Scalar.addi v332_r0 v331_r0
  let v339_r0 : BitVec 32 := Scalar.select v337_r0 v338_r0 v332_r0
  let c8_i32_227_r0 : BitVec 32 := 8#32
  let c0_i32_228_r0 : BitVec 32 := 0#32
  let v357_r0 : BitVec 1 := Scalar.cmpi .eq c8_i32_227_r0 c0_i32_228_r0
  let c1_i32_229_r0 : BitVec 32 := 1#32
  let v358_r0 : BitVec 32 := Scalar.select v357_r0 c1_i32_229_r0 c8_i32_227_r0
  let v359_r0 : BitVec 32 := Scalar.remsi v234_r0 v358_r0
  let c0_i32_231_r0 : BitVec 32 := 0#32
  let v361_r0 : BitVec 1 := Scalar.cmpi .slt v359_r0 c0_i32_231_r0
  let c0_i32_232_r0 : BitVec 32 := 0#32
  let v362_r0 : BitVec 1 := Scalar.cmpi .slt v358_r0 c0_i32_232_r0
  let v363_r0 : BitVec 1 := Scalar.xori v361_r0 v362_r0
  let c0_i32_230_r0 : BitVec 32 := 0#32
  let v360_r0 : BitVec 1 := Scalar.cmpi .ne v359_r0 c0_i32_230_r0
  let v364_r0 : BitVec 1 := Scalar.andi v363_r0 v360_r0
  let v365_r0 : BitVec 32 := Scalar.addi v359_r0 v358_r0
  let v366_r0 : BitVec 32 := Scalar.select v364_r0 v365_r0 v359_r0
  let v544_r0 : BitVec 1 := Scalar.cmpi .ne v339_r0 v366_r0
  let v546_r0 : BitVec 1 := Scalar.ori v545_r0 v544_r0
  let c0_i32_75_r0 : BitVec 32 := 0#32
  let c1_i32_77_r0 : BitVec 32 := 1#32
  let arg5_r0 : BitVec 32 := Scf.iv c0_i32_75_r0 c1_i32_77_r0 k0_t1
  let c63_i32_142_r0 : BitVec 32 := 63#32
  let v215_r0 : BitVec 1 := Scalar.cmpi .eq arg5_r0 c63_i32_142_r0
  let v547_r0 : BitVec 1 := Scalar.ori v546_r0 v215_r0
  let v548_r0 : BitVec 32 := Scalar.extui v547_r0
  let c0_i32_304_r0 : BitVec 32 := 0#32
  let v549_r0 : BitVec 1 := Scalar.cmpi .ne v548_r0 c0_i32_304_r0
  v549_r0

def k0_off29 (i : grid0.Coords) (arg11_r0 : BitVec 32) : Fin 3 → Nat :=
  let c1_i32_338_r0 : BitVec 32 := 1#32
  let c0_i32_143_r0 : BitVec 32 := 0#32
  let c0_i32 : BitVec 32 := 0#32
  let arg1 : BitVec 32 := BitVec.ofNat 32 (i 1).val
  let c1_i32 : BitVec 32 := 1#32
  let v64 : BitVec 32 := Scalar.muli arg1 c1_i32
  let v65 : BitVec 32 := Scalar.addi c0_i32 v64
  let arg0 : BitVec 32 := BitVec.ofNat 32 (i 0).val
  let c16_i32 : BitVec 32 := 16#32
  let v66 : BitVec 32 := Scalar.muli arg0 c16_i32
  let v67 : BitVec 32 := Scalar.addi v65 v66
  let c1_i32_15 : BitVec 32 := 1#32
  let v68 : BitVec 32 := Scalar.muli v67 c1_i32_15
  let v216_r0 : BitVec 32 := Scalar.addi c0_i32_143_r0 v68
  let c0_i32_326_r0 : BitVec 32 := 0#32
  let v592_r0 : BitVec 1 := Scalar.cmpi .sgt v216_r0 c0_i32_326_r0
  let v593_r0 : BitVec 32 := Scalar.extui v592_r0
  let c0_i32_327_r0 : BitVec 32 := 0#32
  let v594_r0 : BitVec 1 := Scalar.cmpi .slt v216_r0 c0_i32_327_r0
  let v595_r0 : BitVec 32 := Scalar.extui v594_r0
  let v596_r0 : BitVec 32 := Scalar.subi v593_r0 v595_r0
  let c8_i32_325_r0 : BitVec 32 := 8#32
  let c0_i32_328_r0 : BitVec 32 := 0#32
  let v597_r0 : BitVec 1 := Scalar.cmpi .sgt c8_i32_325_r0 c0_i32_328_r0
  let v598_r0 : BitVec 32 := Scalar.extui v597_r0
  let c0_i32_329_r0 : BitVec 32 := 0#32
  let v599_r0 : BitVec 1 := Scalar.cmpi .slt c8_i32_325_r0 c0_i32_329_r0
  let v600_r0 : BitVec 32 := Scalar.extui v599_r0
  let v601_r0 : BitVec 32 := Scalar.subi v598_r0 v600_r0
  let v602_r0 : BitVec 1 := Scalar.cmpi .ne v596_r0 v601_r0
  let v603_r0 : BitVec 32 := Scalar.remsi v216_r0 c8_i32_325_r0
  let c0_i32_330_r0 : BitVec 32 := 0#32
  let v604_r0 : BitVec 1 := Scalar.cmpi .ne v603_r0 c0_i32_330_r0
  let v605_r0 : BitVec 1 := Scalar.andi v602_r0 v604_r0
  let v591_r0 : BitVec 32 := Scalar.divsi v216_r0 c8_i32_325_r0
  let c1_i32_331_r0 : BitVec 32 := 1#32
  let v606_r0 : BitVec 32 := Scalar.subi v591_r0 c1_i32_331_r0
  let v607_r0 : BitVec 32 := Scalar.select v605_r0 v606_r0 v591_r0
  let v618_r0 : BitVec 32 := Scalar.muli c1_i32_338_r0 v607_r0
  let c64_i32_339_r0 : BitVec 32 := 64#32
  let c0_i32_144_r0 : BitVec 32 := 0#32
  let v217_r0 : BitVec 32 := Scalar.addi arg11_r0 c0_i32_144_r0
  let v619_r0 : BitVec 32 := Scalar.muli c64_i32_339_r0 v217_r0
  let c256_i32_340_r0 : BitVec 32 := 256#32
  let c8_i32_332_r0 : BitVec 32 := 8#32
  let c0_i32_333_r0 : BitVec 32 := 0#32
  let v608_r0 : BitVec 1 := Scalar.cmpi .eq c8_i32_332_r0 c0_i32_333_r0
  let c1_i32_334_r0 : BitVec 32 := 1#32
  let v609_r0 : BitVec 32 := Scalar.select v608_r0 c1_i32_334_r0 c8_i32_332_r0
  let v610_r0 : BitVec 32 := Scalar.remsi v216_r0 v609_r0
  let c0_i32_336_r0 : BitVec 32 := 0#32
  let v612_r0 : BitVec 1 := Scalar.cmpi .slt v610_r0 c0_i32_336_r0
  let c0_i32_337_r0 : BitVec 32 := 0#32
  let v613_r0 : BitVec 1 := Scalar.cmpi .slt v609_r0 c0_i32_337_r0
  let v614_r0 : BitVec 1 := Scalar.xori v612_r0 v613_r0
  let c0_i32_335_r0 : BitVec 32 := 0#32
  let v611_r0 : BitVec 1 := Scalar.cmpi .ne v610_r0 c0_i32_335_r0
  let v615_r0 : BitVec 1 := Scalar.andi v614_r0 v611_r0
  let v616_r0 : BitVec 32 := Scalar.addi v610_r0 v609_r0
  let v617_r0 : BitVec 32 := Scalar.select v615_r0 v616_r0 v610_r0
  let v620_r0 : BitVec 32 := Scalar.muli c256_i32_340_r0 v617_r0
  ![v618_r0.toNat, v619_r0.toNat, v620_r0.toNat]
def k0_off30 (arg8_r0 : BitVec 32) : Fin 1 → Nat :=
  let c2_i32_324_r0 : BitVec 32 := 2#32
  let v590_r0 : BitVec 32 := Scalar.remui arg8_r0 c2_i32_324_r0
  ![v590_r0.toNat]
def k0_off31 (arg9_r0 : BitVec 32) : Fin 4 → Nat :=
  let c2_i32_324_r0 : BitVec 32 := 2#32
  let v590_r0 : BitVec 32 := Scalar.remui arg9_r0 c2_i32_324_r0
  let c0_i32_341_r0 : BitVec 32 := 0#32
  let c0_i32_342_r0 : BitVec 32 := 0#32
  let c0_i32_343_r0 : BitVec 32 := 0#32
  ![v590_r0.toNat, 0, 0, 0]
def k0_cond7 (i : grid0.Coords) (k0_t1 : Fin k0_t1_loop.trips) (arg11_r0 : BitVec 32) : BitVec 1 :=
  let c0_i32_143_r0 : BitVec 32 := 0#32
  let c0_i32 : BitVec 32 := 0#32
  let arg1 : BitVec 32 := BitVec.ofNat 32 (i 1).val
  let c1_i32 : BitVec 32 := 1#32
  let v64 : BitVec 32 := Scalar.muli arg1 c1_i32
  let v65 : BitVec 32 := Scalar.addi c0_i32 v64
  let arg0 : BitVec 32 := BitVec.ofNat 32 (i 0).val
  let c16_i32 : BitVec 32 := 16#32
  let v66 : BitVec 32 := Scalar.muli arg0 c16_i32
  let v67 : BitVec 32 := Scalar.addi v65 v66
  let c1_i32_15 : BitVec 32 := 1#32
  let v68 : BitVec 32 := Scalar.muli v67 c1_i32_15
  let v216_r0 : BitVec 32 := Scalar.addi c0_i32_143_r0 v68
  let c0_i32_208_r0 : BitVec 32 := 0#32
  let v314_r0 : BitVec 1 := Scalar.cmpi .sgt v216_r0 c0_i32_208_r0
  let v315_r0 : BitVec 32 := Scalar.extui v314_r0
  let c0_i32_209_r0 : BitVec 32 := 0#32
  let v316_r0 : BitVec 1 := Scalar.cmpi .slt v216_r0 c0_i32_209_r0
  let v317_r0 : BitVec 32 := Scalar.extui v316_r0
  let v318_r0 : BitVec 32 := Scalar.subi v315_r0 v317_r0
  let c8_i32_207_r0 : BitVec 32 := 8#32
  let c0_i32_210_r0 : BitVec 32 := 0#32
  let v319_r0 : BitVec 1 := Scalar.cmpi .sgt c8_i32_207_r0 c0_i32_210_r0
  let v320_r0 : BitVec 32 := Scalar.extui v319_r0
  let c0_i32_211_r0 : BitVec 32 := 0#32
  let v321_r0 : BitVec 1 := Scalar.cmpi .slt c8_i32_207_r0 c0_i32_211_r0
  let v322_r0 : BitVec 32 := Scalar.extui v321_r0
  let v323_r0 : BitVec 32 := Scalar.subi v320_r0 v322_r0
  let v324_r0 : BitVec 1 := Scalar.cmpi .ne v318_r0 v323_r0
  let v325_r0 : BitVec 32 := Scalar.remsi v216_r0 c8_i32_207_r0
  let c0_i32_212_r0 : BitVec 32 := 0#32
  let v326_r0 : BitVec 1 := Scalar.cmpi .ne v325_r0 c0_i32_212_r0
  let v327_r0 : BitVec 1 := Scalar.andi v324_r0 v326_r0
  let v313_r0 : BitVec 32 := Scalar.divsi v216_r0 c8_i32_207_r0
  let c1_i32_213_r0 : BitVec 32 := 1#32
  let v328_r0 : BitVec 32 := Scalar.subi v313_r0 c1_i32_213_r0
  let v329_r0 : BitVec 32 := Scalar.select v327_r0 v328_r0 v313_r0
  let c0_i32_153_r0 : BitVec 32 := 0#32
  let v225_r0 : BitVec 32 := Scalar.addi c0_i32_153_r0 v68
  let c0_i32_251_r0 : BitVec 32 := 0#32
  let v413_r0 : BitVec 1 := Scalar.cmpi .sgt v225_r0 c0_i32_251_r0
  let v414_r0 : BitVec 32 := Scalar.extui v413_r0
  let c0_i32_252_r0 : BitVec 32 := 0#32
  let v415_r0 : BitVec 1 := Scalar.cmpi .slt v225_r0 c0_i32_252_r0
  let v416_r0 : BitVec 32 := Scalar.extui v415_r0
  let v417_r0 : BitVec 32 := Scalar.subi v414_r0 v416_r0
  let c8_i32_250_r0 : BitVec 32 := 8#32
  let c0_i32_253_r0 : BitVec 32 := 0#32
  let v418_r0 : BitVec 1 := Scalar.cmpi .sgt c8_i32_250_r0 c0_i32_253_r0
  let v419_r0 : BitVec 32 := Scalar.extui v418_r0
  let c0_i32_254_r0 : BitVec 32 := 0#32
  let v420_r0 : BitVec 1 := Scalar.cmpi .slt c8_i32_250_r0 c0_i32_254_r0
  let v421_r0 : BitVec 32 := Scalar.extui v420_r0
  let v422_r0 : BitVec 32 := Scalar.subi v419_r0 v421_r0
  let v423_r0 : BitVec 1 := Scalar.cmpi .ne v417_r0 v422_r0
  let v424_r0 : BitVec 32 := Scalar.remsi v225_r0 c8_i32_250_r0
  let c0_i32_255_r0 : BitVec 32 := 0#32
  let v425_r0 : BitVec 1 := Scalar.cmpi .ne v424_r0 c0_i32_255_r0
  let v426_r0 : BitVec 1 := Scalar.andi v423_r0 v425_r0
  let v412_r0 : BitVec 32 := Scalar.divsi v225_r0 c8_i32_250_r0
  let c1_i32_256_r0 : BitVec 32 := 1#32
  let v427_r0 : BitVec 32 := Scalar.subi v412_r0 c1_i32_256_r0
  let v428_r0 : BitVec 32 := Scalar.select v426_r0 v427_r0 v412_r0
  let v563_r0 : BitVec 1 := Scalar.cmpi .ne v329_r0 v428_r0
  let c0_i32_144_r0 : BitVec 32 := 0#32
  let v217_r0 : BitVec 32 := Scalar.addi arg11_r0 c0_i32_144_r0
  let true_146_r0 : BitVec 1 := 1#1
  let c1_i32_145_r0 : BitVec 32 := 1#32
  let v218_r0 : BitVec 32 := Scalar.subi arg11_r0 c1_i32_145_r0
  let v219_r0 : BitVec 32 := Scalar.select true_146_r0 v218_r0 arg11_r0
  let c_m1_i32_147_r0 : BitVec 32 := 4294967295#32
  let v220_r0 : BitVec 1 := Scalar.cmpi .eq v219_r0 c_m1_i32_147_r0
  let c63_i32_148_r0 : BitVec 32 := 63#32
  let v221_r0 : BitVec 32 := Scalar.select v220_r0 c63_i32_148_r0 v219_r0
  let c0_i32_154_r0 : BitVec 32 := 0#32
  let v226_r0 : BitVec 32 := Scalar.addi v221_r0 c0_i32_154_r0
  let v564_r0 : BitVec 1 := Scalar.cmpi .ne v217_r0 v226_r0
  let v566_r0 : BitVec 1 := Scalar.ori v563_r0 v564_r0
  let c8_i32_214_r0 : BitVec 32 := 8#32
  let c0_i32_215_r0 : BitVec 32 := 0#32
  let v330_r0 : BitVec 1 := Scalar.cmpi .eq c8_i32_214_r0 c0_i32_215_r0
  let c1_i32_216_r0 : BitVec 32 := 1#32
  let v331_r0 : BitVec 32 := Scalar.select v330_r0 c1_i32_216_r0 c8_i32_214_r0
  let v332_r0 : BitVec 32 := Scalar.remsi v216_r0 v331_r0
  let c0_i32_218_r0 : BitVec 32 := 0#32
  let v334_r0 : BitVec 1 := Scalar.cmpi .slt v332_r0 c0_i32_218_r0
  let c0_i32_219_r0 : BitVec 32 := 0#32
  let v335_r0 : BitVec 1 := Scalar.cmpi .slt v331_r0 c0_i32_219_r0
  let v336_r0 : BitVec 1 := Scalar.xori v334_r0 v335_r0
  let c0_i32_217_r0 : BitVec 32 := 0#32
  let v333_r0 : BitVec 1 := Scalar.cmpi .ne v332_r0 c0_i32_217_r0
  let v337_r0 : BitVec 1 := Scalar.andi v336_r0 v333_r0
  let v338_r0 : BitVec 32 := Scalar.addi v332_r0 v331_r0
  let v339_r0 : BitVec 32 := Scalar.select v337_r0 v338_r0 v332_r0
  let c8_i32_257_r0 : BitVec 32 := 8#32
  let c0_i32_258_r0 : BitVec 32 := 0#32
  let v429_r0 : BitVec 1 := Scalar.cmpi .eq c8_i32_257_r0 c0_i32_258_r0
  let c1_i32_259_r0 : BitVec 32 := 1#32
  let v430_r0 : BitVec 32 := Scalar.select v429_r0 c1_i32_259_r0 c8_i32_257_r0
  let v431_r0 : BitVec 32 := Scalar.remsi v225_r0 v430_r0
  let c0_i32_261_r0 : BitVec 32 := 0#32
  let v433_r0 : BitVec 1 := Scalar.cmpi .slt v431_r0 c0_i32_261_r0
  let c0_i32_262_r0 : BitVec 32 := 0#32
  let v434_r0 : BitVec 1 := Scalar.cmpi .slt v430_r0 c0_i32_262_r0
  let v435_r0 : BitVec 1 := Scalar.xori v433_r0 v434_r0
  let c0_i32_260_r0 : BitVec 32 := 0#32
  let v432_r0 : BitVec 1 := Scalar.cmpi .ne v431_r0 c0_i32_260_r0
  let v436_r0 : BitVec 1 := Scalar.andi v435_r0 v432_r0
  let v437_r0 : BitVec 32 := Scalar.addi v431_r0 v430_r0
  let v438_r0 : BitVec 32 := Scalar.select v436_r0 v437_r0 v431_r0
  let v565_r0 : BitVec 1 := Scalar.cmpi .ne v339_r0 v438_r0
  let v567_r0 : BitVec 1 := Scalar.ori v566_r0 v565_r0
  let c0_i32_75_r0 : BitVec 32 := 0#32
  let c1_i32_77_r0 : BitVec 32 := 1#32
  let arg5_r0 : BitVec 32 := Scf.iv c0_i32_75_r0 c1_i32_77_r0 k0_t1
  let c0_i32_141_r0 : BitVec 32 := 0#32
  let v214_r0 : BitVec 1 := Scalar.cmpi .eq arg5_r0 c0_i32_141_r0
  let true_310_r0 : BitVec 1 := 1#1
  let v568_r0 : BitVec 1 := Scalar.xori v214_r0 true_310_r0
  let v569_r0 : BitVec 1 := Scalar.andi v567_r0 v568_r0
  let v570_r0 : BitVec 32 := Scalar.extui v569_r0
  let c0_i32_311_r0 : BitVec 32 := 0#32
  let v571_r0 : BitVec 1 := Scalar.cmpi .ne v570_r0 c0_i32_311_r0
  v571_r0

def k0_off32 (i : grid0.Coords) (arg11_r0 : BitVec 32) : Fin 3 → Nat :=
  let c1_i32_338_r0 : BitVec 32 := 1#32
  let c0_i32_153_r0 : BitVec 32 := 0#32
  let c0_i32 : BitVec 32 := 0#32
  let arg1 : BitVec 32 := BitVec.ofNat 32 (i 1).val
  let c1_i32 : BitVec 32 := 1#32
  let v64 : BitVec 32 := Scalar.muli arg1 c1_i32
  let v65 : BitVec 32 := Scalar.addi c0_i32 v64
  let arg0 : BitVec 32 := BitVec.ofNat 32 (i 0).val
  let c16_i32 : BitVec 32 := 16#32
  let v66 : BitVec 32 := Scalar.muli arg0 c16_i32
  let v67 : BitVec 32 := Scalar.addi v65 v66
  let c1_i32_15 : BitVec 32 := 1#32
  let v68 : BitVec 32 := Scalar.muli v67 c1_i32_15
  let v225_r0 : BitVec 32 := Scalar.addi c0_i32_153_r0 v68
  let c0_i32_326_r0 : BitVec 32 := 0#32
  let v592_r0 : BitVec 1 := Scalar.cmpi .sgt v225_r0 c0_i32_326_r0
  let v593_r0 : BitVec 32 := Scalar.extui v592_r0
  let c0_i32_327_r0 : BitVec 32 := 0#32
  let v594_r0 : BitVec 1 := Scalar.cmpi .slt v225_r0 c0_i32_327_r0
  let v595_r0 : BitVec 32 := Scalar.extui v594_r0
  let v596_r0 : BitVec 32 := Scalar.subi v593_r0 v595_r0
  let c8_i32_325_r0 : BitVec 32 := 8#32
  let c0_i32_328_r0 : BitVec 32 := 0#32
  let v597_r0 : BitVec 1 := Scalar.cmpi .sgt c8_i32_325_r0 c0_i32_328_r0
  let v598_r0 : BitVec 32 := Scalar.extui v597_r0
  let c0_i32_329_r0 : BitVec 32 := 0#32
  let v599_r0 : BitVec 1 := Scalar.cmpi .slt c8_i32_325_r0 c0_i32_329_r0
  let v600_r0 : BitVec 32 := Scalar.extui v599_r0
  let v601_r0 : BitVec 32 := Scalar.subi v598_r0 v600_r0
  let v602_r0 : BitVec 1 := Scalar.cmpi .ne v596_r0 v601_r0
  let v603_r0 : BitVec 32 := Scalar.remsi v225_r0 c8_i32_325_r0
  let c0_i32_330_r0 : BitVec 32 := 0#32
  let v604_r0 : BitVec 1 := Scalar.cmpi .ne v603_r0 c0_i32_330_r0
  let v605_r0 : BitVec 1 := Scalar.andi v602_r0 v604_r0
  let v591_r0 : BitVec 32 := Scalar.divsi v225_r0 c8_i32_325_r0
  let c1_i32_331_r0 : BitVec 32 := 1#32
  let v606_r0 : BitVec 32 := Scalar.subi v591_r0 c1_i32_331_r0
  let v607_r0 : BitVec 32 := Scalar.select v605_r0 v606_r0 v591_r0
  let v618_r0 : BitVec 32 := Scalar.muli c1_i32_338_r0 v607_r0
  let c64_i32_339_r0 : BitVec 32 := 64#32
  let true_146_r0 : BitVec 1 := 1#1
  let c1_i32_145_r0 : BitVec 32 := 1#32
  let v218_r0 : BitVec 32 := Scalar.subi arg11_r0 c1_i32_145_r0
  let v219_r0 : BitVec 32 := Scalar.select true_146_r0 v218_r0 arg11_r0
  let c_m1_i32_147_r0 : BitVec 32 := 4294967295#32
  let v220_r0 : BitVec 1 := Scalar.cmpi .eq v219_r0 c_m1_i32_147_r0
  let c63_i32_148_r0 : BitVec 32 := 63#32
  let v221_r0 : BitVec 32 := Scalar.select v220_r0 c63_i32_148_r0 v219_r0
  let c0_i32_154_r0 : BitVec 32 := 0#32
  let v226_r0 : BitVec 32 := Scalar.addi v221_r0 c0_i32_154_r0
  let v619_r0 : BitVec 32 := Scalar.muli c64_i32_339_r0 v226_r0
  let c256_i32_340_r0 : BitVec 32 := 256#32
  let c8_i32_332_r0 : BitVec 32 := 8#32
  let c0_i32_333_r0 : BitVec 32 := 0#32
  let v608_r0 : BitVec 1 := Scalar.cmpi .eq c8_i32_332_r0 c0_i32_333_r0
  let c1_i32_334_r0 : BitVec 32 := 1#32
  let v609_r0 : BitVec 32 := Scalar.select v608_r0 c1_i32_334_r0 c8_i32_332_r0
  let v610_r0 : BitVec 32 := Scalar.remsi v225_r0 v609_r0
  let c0_i32_336_r0 : BitVec 32 := 0#32
  let v612_r0 : BitVec 1 := Scalar.cmpi .slt v610_r0 c0_i32_336_r0
  let c0_i32_337_r0 : BitVec 32 := 0#32
  let v613_r0 : BitVec 1 := Scalar.cmpi .slt v609_r0 c0_i32_337_r0
  let v614_r0 : BitVec 1 := Scalar.xori v612_r0 v613_r0
  let c0_i32_335_r0 : BitVec 32 := 0#32
  let v611_r0 : BitVec 1 := Scalar.cmpi .ne v610_r0 c0_i32_335_r0
  let v615_r0 : BitVec 1 := Scalar.andi v614_r0 v611_r0
  let v616_r0 : BitVec 32 := Scalar.addi v610_r0 v609_r0
  let v617_r0 : BitVec 32 := Scalar.select v615_r0 v616_r0 v610_r0
  let v620_r0 : BitVec 32 := Scalar.muli c256_i32_340_r0 v617_r0
  ![v618_r0.toNat, v619_r0.toNat, v620_r0.toNat]
def k0_off33 (arg9_r0 : BitVec 32) : Fin 1 → Nat :=
  let c2_i32_324_r0 : BitVec 32 := 2#32
  let v590_r0 : BitVec 32 := Scalar.remui arg9_r0 c2_i32_324_r0
  ![v590_r0.toNat]

def k0_chk1 (i : grid0.Coords) (k0_t1 : Fin k0_t1_loop.trips) (arg6_r0 : BitVec 32) (arg7_r0 : BitVec 32) (arg8_r0 : BitVec 32) (arg9_r0 : BitVec 32) (arg11_r0 : BitVec 32) : Prop :=
  (∀ (k0_h1 : k0_cond1 i k0_t1 arg11_r0 = 1#1), ∀ a, (k0_off4 arg6_r0) a + S1x1x64x256.size a ≤ S2x1x64x256.size a) ∧
  (∀ (k0_h1 : k0_cond1 i k0_t1 arg11_r0 = 1#1), ∀ a, (k0_off5 i arg11_r0) a + S1x64x256.size a ≤ S4x4096x2048.size a) ∧
  (∀ (k0_h1 : k0_cond1 i k0_t1 arg11_r0 = 1#1), ∀ a, (k0_off6 arg6_r0) a + S1.size a ≤ S2.size a) ∧
  (∀ (k0_h2 : k0_cond2 i k0_t1 arg11_r0 = 1#1), ∀ a, (k0_off7 arg7_r0) a + S1x1x64x256.size a ≤ S2x1x64x256.size a) ∧
  (∀ (k0_h2 : k0_cond2 i k0_t1 arg11_r0 = 1#1), ∀ a, (k0_off8 i arg11_r0) a + S1x64x256.size a ≤ S4x4096x2048.size a) ∧
  (∀ (k0_h2 : k0_cond2 i k0_t1 arg11_r0 = 1#1), ∀ a, (k0_off9 arg7_r0) a + S1.size a ≤ S2.size a) ∧
  (∀ (k0_h5 : k0_cond5 i k0_t1 arg11_r0 = 1#1), ∀ a, (k0_off28 arg8_r0) a + S1x1x64x256.size a ≤ S2x1x64x256.size a) ∧
  (∀ (k0_h5 : k0_cond5 i k0_t1 arg11_r0 = 1#1), ∀ a, (k0_off29 i arg11_r0) a + S1x64x256.size a ≤ S4x4096x2048.size a) ∧
  (∀ (k0_h5 : k0_cond5 i k0_t1 arg11_r0 = 1#1), ∀ a, (k0_off30 arg8_r0) a + S1.size a ≤ S2.size a) ∧
  (∀ (k0_h7 : k0_cond7 i k0_t1 arg11_r0 = 1#1), ∀ a, (k0_off31 arg9_r0) a + S1x1x64x256.size a ≤ S2x1x64x256.size a) ∧
  (∀ (k0_h7 : k0_cond7 i k0_t1 arg11_r0 = 1#1), ∀ a, (k0_off32 i arg11_r0) a + S1x64x256.size a ≤ S4x4096x2048.size a) ∧
  (∀ (k0_h7 : k0_cond7 i k0_t1 arg11_r0 = 1#1), ∀ a, (k0_off33 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg11_r0 : BitVec 32) (k0_hw1 : k0_chk1 i k0_t1 arg6_r0 arg7_r0 arg8_r0 arg9_r0 arg11_r0), ∀ (k0_h1 : k0_cond1 i k0_t1 arg11_r0 = 1#1), ∀ a, (k0_off4 arg6_r0) a + S1x1x64x256.size a ≤ S2x1x64x256.size a := fun i k0_t1 arg6_r0 arg7_r0 arg8_r0 arg9_r0 arg11_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg11_r0 : BitVec 32) (k0_hw1 : k0_chk1 i k0_t1 arg6_r0 arg7_r0 arg8_r0 arg9_r0 arg11_r0), ∀ (k0_h1 : k0_cond1 i k0_t1 arg11_r0 = 1#1), ∀ a, (k0_off5 i arg11_r0) a + S1x64x256.size a ≤ S4x4096x2048.size a := fun i k0_t1 arg6_r0 arg7_r0 arg8_r0 arg9_r0 arg11_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg11_r0 : BitVec 32) (k0_hw1 : k0_chk1 i k0_t1 arg6_r0 arg7_r0 arg8_r0 arg9_r0 arg11_r0), ∀ (k0_h1 : k0_cond1 i k0_t1 arg11_r0 = 1#1), ∀ a, (k0_off6 arg6_r0) a + S1.size a ≤ S2.size a := fun i k0_t1 arg6_r0 arg7_r0 arg8_r0 arg9_r0 arg11_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg11_r0 : BitVec 32) (k0_hw1 : k0_chk1 i k0_t1 arg6_r0 arg7_r0 arg8_r0 arg9_r0 arg11_r0), ∀ (k0_h2 : k0_cond2 i k0_t1 arg11_r0 = 1#1), ∀ a, (k0_off7 arg7_r0) a + S1x1x64x256.size a ≤ S2x1x64x256.size a := fun i k0_t1 arg6_r0 arg7_r0 arg8_r0 arg9_r0 arg11_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg11_r0 : BitVec 32) (k0_hw1 : k0_chk1 i k0_t1 arg6_r0 arg7_r0 arg8_r0 arg9_r0 arg11_r0), ∀ (k0_h2 : k0_cond2 i k0_t1 arg11_r0 = 1#1), ∀ a, (k0_off8 i arg11_r0) a + S1x64x256.size a ≤ S4x4096x2048.size a := fun i k0_t1 arg6_r0 arg7_r0 arg8_r0 arg9_r0 arg11_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg11_r0 : BitVec 32) (k0_hw1 : k0_chk1 i k0_t1 arg6_r0 arg7_r0 arg8_r0 arg9_r0 arg11_r0), ∀ (k0_h2 : k0_cond2 i k0_t1 arg11_r0 = 1#1), ∀ a, (k0_off9 arg7_r0) a + S1.size a ≤ S2.size a := fun i k0_t1 arg6_r0 arg7_r0 arg8_r0 arg9_r0 arg11_r0 k0_hw1 k0_h2 => k0_hw1.2.2.2.2.2.1 k0_h2
theorem k0_off28_inb : ∀ (i : grid0.Coords) (k0_t1 : Fin k0_t1_loop.trips) (arg6_r0 : BitVec 32) (arg7_r0 : BitVec 32) (arg8_r0 : BitVec 32) (arg9_r0 : BitVec 32) (arg11_r0 : BitVec 32) (k0_hw1 : k0_chk1 i k0_t1 arg6_r0 arg7_r0 arg8_r0 arg9_r0 arg11_r0), ∀ (k0_h5 : k0_cond5 i k0_t1 arg11_r0 = 1#1), ∀ a, (k0_off28 arg8_r0) a + S1x1x64x256.size a ≤ S2x1x64x256.size a := fun i k0_t1 arg6_r0 arg7_r0 arg8_r0 arg9_r0 arg11_r0 k0_hw1 k0_h5 => k0_hw1.2.2.2.2.2.2.1 k0_h5
theorem k0_off29_inb : ∀ (i : grid0.Coords) (k0_t1 : Fin k0_t1_loop.trips) (arg6_r0 : BitVec 32) (arg7_r0 : BitVec 32) (arg8_r0 : BitVec 32) (arg9_r0 : BitVec 32) (arg11_r0 : BitVec 32) (k0_hw1 : k0_chk1 i k0_t1 arg6_r0 arg7_r0 arg8_r0 arg9_r0 arg11_r0), ∀ (k0_h5 : k0_cond5 i k0_t1 arg11_r0 = 1#1), ∀ a, (k0_off29 i arg11_r0) a + S1x64x256.size a ≤ S4x4096x2048.size a := fun i k0_t1 arg6_r0 arg7_r0 arg8_r0 arg9_r0 arg11_r0 k0_hw1 k0_h5 => k0_hw1.2.2.2.2.2.2.2.1 k0_h5
theorem k0_off30_inb : ∀ (i : grid0.Coords) (k0_t1 : Fin k0_t1_loop.trips) (arg6_r0 : BitVec 32) (arg7_r0 : BitVec 32) (arg8_r0 : BitVec 32) (arg9_r0 : BitVec 32) (arg11_r0 : BitVec 32) (k0_hw1 : k0_chk1 i k0_t1 arg6_r0 arg7_r0 arg8_r0 arg9_r0 arg11_r0), ∀ (k0_h5 : k0_cond5 i k0_t1 arg11_r0 = 1#1), ∀ a, (k0_off30 arg8_r0) a + S1.size a ≤ S2.size a := fun i k0_t1 arg6_r0 arg7_r0 arg8_r0 arg9_r0 arg11_r0 k0_hw1 k0_h5 => k0_hw1.2.2.2.2.2.2.2.2.1 k0_h5
theorem k0_off31_inb : ∀ (i : grid0.Coords) (k0_t1 : Fin k0_t1_loop.trips) (arg6_r0 : BitVec 32) (arg7_r0 : BitVec 32) (arg8_r0 : BitVec 32) (arg9_r0 : BitVec 32) (arg11_r0 : BitVec 32) (k0_hw1 : k0_chk1 i k0_t1 arg6_r0 arg7_r0 arg8_r0 arg9_r0 arg11_r0), ∀ (k0_h7 : k0_cond7 i k0_t1 arg11_r0 = 1#1), ∀ a, (k0_off31 arg9_r0) a + S1x1x64x256.size a ≤ S2x1x64x256.size a := fun i k0_t1 arg6_r0 arg7_r0 arg8_r0 arg9_r0 arg11_r0 k0_hw1 k0_h7 => k0_hw1.2.2.2.2.2.2.2.2.2.1 k0_h7
theorem k0_off32_inb : ∀ (i : grid0.Coords) (k0_t1 : Fin k0_t1_loop.trips) (arg6_r0 : BitVec 32) (arg7_r0 : BitVec 32) (arg8_r0 : BitVec 32) (arg9_r0 : BitVec 32) (arg11_r0 : BitVec 32) (k0_hw1 : k0_chk1 i k0_t1 arg6_r0 arg7_r0 arg8_r0 arg9_r0 arg11_r0), ∀ (k0_h7 : k0_cond7 i k0_t1 arg11_r0 = 1#1), ∀ a, (k0_off32 i arg11_r0) a + S1x64x256.size a ≤ S4x4096x2048.size a := fun i k0_t1 arg6_r0 arg7_r0 arg8_r0 arg9_r0 arg11_r0 k0_hw1 k0_h7 => k0_hw1.2.2.2.2.2.2.2.2.2.2.1 k0_h7
theorem k0_off33_inb : ∀ (i : grid0.Coords) (k0_t1 : Fin k0_t1_loop.trips) (arg6_r0 : BitVec 32) (arg7_r0 : BitVec 32) (arg8_r0 : BitVec 32) (arg9_r0 : BitVec 32) (arg11_r0 : BitVec 32) (k0_hw1 : k0_chk1 i k0_t1 arg6_r0 arg7_r0 arg8_r0 arg9_r0 arg11_r0), ∀ (k0_h7 : k0_cond7 i k0_t1 arg11_r0 = 1#1), ∀ a, (k0_off33 arg9_r0) a + S1.size a ≤ S2.size a := fun i k0_t1 arg6_r0 arg7_r0 arg8_r0 arg9_r0 arg11_r0 k0_hw1 k0_h7 => k0_hw1.2.2.2.2.2.2.2.2.2.2.2 k0_h7

def k0_off34 (v137_3_r0 : BitVec 32) : Fin 4 → Nat :=
  let c2_i32_118_r0 : BitVec 32 := 2#32
  let v175_r0 : BitVec 32 := Scalar.remui v137_3_r0 c2_i32_118_r0
  let c0_i32_135_r0 : BitVec 32 := 0#32
  let c0_i32_136_r0 : BitVec 32 := 0#32
  let c0_i32_137_r0 : BitVec 32 := 0#32
  ![v175_r0.toNat, 0, 0, 0]

def k0_off35 (i : grid0.Coords) (v137_5_r0 : BitVec 32) : Fin 3 → Nat :=
  let c1_i32_132_r0 : BitVec 32 := 1#32
  let c0_i32_86_r0 : BitVec 32 := 0#32
  let c0_i32 : BitVec 32 := 0#32
  let arg1 : BitVec 32 := BitVec.ofNat 32 (i 1).val
  let c1_i32 : BitVec 32 := 1#32
  let v64 : BitVec 32 := Scalar.muli arg1 c1_i32
  let v65 : BitVec 32 := Scalar.addi c0_i32 v64
  let arg0 : BitVec 32 := BitVec.ofNat 32 (i 0).val
  let c16_i32 : BitVec 32 := 16#32
  let v66 : BitVec 32 := Scalar.muli arg0 c16_i32
  let v67 : BitVec 32 := Scalar.addi v65 v66
  let c1_i32_15 : BitVec 32 := 1#32
  let v68 : BitVec 32 := Scalar.muli v67 c1_i32_15
  let v146_r0 : BitVec 32 := Scalar.addi c0_i32_86_r0 v68
  let c0_i32_120_r0 : BitVec 32 := 0#32
  let v177_r0 : BitVec 1 := Scalar.cmpi .sgt v146_r0 c0_i32_120_r0
  let v178_r0 : BitVec 32 := Scalar.extui v177_r0
  let c0_i32_121_r0 : BitVec 32 := 0#32
  let v179_r0 : BitVec 1 := Scalar.cmpi .slt v146_r0 c0_i32_121_r0
  let v180_r0 : BitVec 32 := Scalar.extui v179_r0
  let v181_r0 : BitVec 32 := Scalar.subi v178_r0 v180_r0
  let c8_i32_119_r0 : BitVec 32 := 8#32
  let c0_i32_122_r0 : BitVec 32 := 0#32
  let v182_r0 : BitVec 1 := Scalar.cmpi .sgt c8_i32_119_r0 c0_i32_122_r0
  let v183_r0 : BitVec 32 := Scalar.extui v182_r0
  let c0_i32_123_r0 : BitVec 32 := 0#32
  let v184_r0 : BitVec 1 := Scalar.cmpi .slt c8_i32_119_r0 c0_i32_123_r0
  let v185_r0 : BitVec 32 := Scalar.extui v184_r0
  let v186_r0 : BitVec 32 := Scalar.subi v183_r0 v185_r0
  let v187_r0 : BitVec 1 := Scalar.cmpi .ne v181_r0 v186_r0
  let v188_r0 : BitVec 32 := Scalar.remsi v146_r0 c8_i32_119_r0
  let c0_i32_124_r0 : BitVec 32 := 0#32
  let v189_r0 : BitVec 1 := Scalar.cmpi .ne v188_r0 c0_i32_124_r0
  let v190_r0 : BitVec 1 := Scalar.andi v187_r0 v189_r0
  let v176_r0 : BitVec 32 := Scalar.divsi v146_r0 c8_i32_119_r0
  let c1_i32_125_r0 : BitVec 32 := 1#32
  let v191_r0 : BitVec 32 := Scalar.subi v176_r0 c1_i32_125_r0
  let v192_r0 : BitVec 32 := Scalar.select v190_r0 v191_r0 v176_r0
  let v203_r0 : BitVec 32 := Scalar.muli c1_i32_132_r0 v192_r0
  let c64_i32_133_r0 : BitVec 32 := 64#32
  let true_80_r0 : BitVec 1 := 1#1
  let c1_i32_79_r0 : BitVec 32 := 1#32
  let v138_r0 : BitVec 32 := Scalar.subi v137_5_r0 c1_i32_79_r0
  let v139_r0 : BitVec 32 := Scalar.select true_80_r0 v138_r0 v137_5_r0
  let c_m1_i32_81_r0 : BitVec 32 := 4294967295#32
  let v140_r0 : BitVec 1 := Scalar.cmpi .eq v139_r0 c_m1_i32_81_r0
  let c63_i32_82_r0 : BitVec 32 := 63#32
  let v141_r0 : BitVec 32 := Scalar.select v140_r0 c63_i32_82_r0 v139_r0
  let c0_i32_87_r0 : BitVec 32 := 0#32
  let v147_r0 : BitVec 32 := Scalar.addi v141_r0 c0_i32_87_r0
  let v204_r0 : BitVec 32 := Scalar.muli c64_i32_133_r0 v147_r0
  let c256_i32_134_r0 : BitVec 32 := 256#32
  let c8_i32_126_r0 : BitVec 32 := 8#32
  let c0_i32_127_r0 : BitVec 32 := 0#32
  let v193_r0 : BitVec 1 := Scalar.cmpi .eq c8_i32_126_r0 c0_i32_127_r0
  let c1_i32_128_r0 : BitVec 32 := 1#32
  let v194_r0 : BitVec 32 := Scalar.select v193_r0 c1_i32_128_r0 c8_i32_126_r0
  let v195_r0 : BitVec 32 := Scalar.remsi v146_r0 v194_r0
  let c0_i32_130_r0 : BitVec 32 := 0#32
  let v197_r0 : BitVec 1 := Scalar.cmpi .slt v195_r0 c0_i32_130_r0
  let c0_i32_131_r0 : BitVec 32 := 0#32
  let v198_r0 : BitVec 1 := Scalar.cmpi .slt v194_r0 c0_i32_131_r0
  let v199_r0 : BitVec 1 := Scalar.xori v197_r0 v198_r0
  let c0_i32_129_r0 : BitVec 32 := 0#32
  let v196_r0 : BitVec 1 := Scalar.cmpi .ne v195_r0 c0_i32_129_r0
  let v200_r0 : BitVec 1 := Scalar.andi v199_r0 v196_r0
  let v201_r0 : BitVec 32 := Scalar.addi v195_r0 v194_r0
  let v202_r0 : BitVec 32 := Scalar.select v200_r0 v201_r0 v195_r0
  let v205_r0 : BitVec 32 := Scalar.muli c256_i32_134_r0 v202_r0
  ![v203_r0.toNat, v204_r0.toNat, v205_r0.toNat]

def k0_chk5 (i : grid0.Coords) (v137_5_r0 : BitVec 32) : Prop :=
  (∀ a, (k0_off35 i v137_5_r0) a + S1x64x256.size a ≤ S4x4096x2048.size a)
theorem k0_off35_inb : ∀ (i : grid0.Coords) (v137_5_r0 : BitVec 32) (k0_hw5 : k0_chk5 i v137_5_r0), ∀ a, (k0_off35 i v137_5_r0) a + S1x64x256.size a ≤ S4x4096x2048.size a := fun i v137_5_r0 k0_hw5 => k0_hw5

def k0_off36 (v137_3_r0 : BitVec 32) : Fin 1 → Nat :=
  let c2_i32_118_r0 : BitVec 32 := 2#32
  let v175_r0 : BitVec 32 := Scalar.remui v137_3_r0 c2_i32_118_r0
  ![v175_r0.toNat]
def k0_off37 (v137_3_r0 : BitVec 32) : Fin 4 → Nat :=
  let c2_i32_118_r0 : BitVec 32 := 2#32
  let v175_r0 : BitVec 32 := Scalar.remui v137_3_r0 c2_i32_118_r0
  let c0_i32_138_r0 : BitVec 32 := 0#32
  let c0_i32_139_r0 : BitVec 32 := 0#32
  let c0_i32_140_r0 : BitVec 32 := 0#32
  ![v175_r0.toNat, 0, 0, 0]

def k0_chk4 (v137_3_r0 : BitVec 32) : Prop :=
  (∀ a, (k0_off34 v137_3_r0) a + S1x1x64x256.size a ≤ S2x1x64x256.size a) ∧
  (∀ a, (k0_off36 v137_3_r0) a + S1.size a ≤ S2.size a) ∧
  (∀ a, (k0_off37 v137_3_r0) a + S1x1x64x256.size a ≤ S2x1x64x256.size a)
theorem k0_off34_inb : ∀ (v137_3_r0 : BitVec 32) (k0_hw4 : k0_chk4 v137_3_r0), ∀ a, (k0_off34 v137_3_r0) a + S1x1x64x256.size a ≤ S2x1x64x256.size a := fun v137_3_r0 k0_hw4 => k0_hw4.1
theorem k0_off36_inb : ∀ (v137_3_r0 : BitVec 32) (k0_hw4 : k0_chk4 v137_3_r0), ∀ a, (k0_off36 v137_3_r0) a + S1.size a ≤ S2.size a := fun v137_3_r0 k0_hw4 => k0_hw4.2.1
theorem k0_off37_inb : ∀ (v137_3_r0 : BitVec 32) (k0_hw4 : k0_chk4 v137_3_r0), ∀ a, (k0_off37 v137_3_r0) a + S1x1x64x256.size a ≤ S2x1x64x256.size a := fun v137_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x2048 : Shape := ⟨3, ![4, 4096, 2048]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S_, .f32⟩
  | .hbm, ⟨2, _⟩ => ⟨S_, .f32⟩
  | .hbm, ⟨3, _⟩ => ⟨S4x4096x2048, .f32⟩
  | .hbm, ⟨4, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Slots.lean ====
/-
  A MEMREF AND WHAT IT READS AS. A subcore that owns the elements under a memref `m`, reading as `X`, holds `Reads thr m X`.
  The rules below state a load, a store, a copy between two memrefs of one shape and the wait for it by that assertion
  alone, so that a kernel's proof speaks of contents by the memref's own coordinates and never of the buffer behind it.
-/
module

public import Idealize.ShloMosaic.Lib.SparseCore.Quiescent
public import Idealize.ShloMosaic.Lib.Pipeline.Kit
public import Idealize.ShloMosaic.Lib.Tactic

@[expose] public section

noncomputable section

namespace Cert.Slots

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {nD : Nat} {τ : Topo} {sig : RefSig} {Ix : Type} [DecidableEq Ix] {Val : EltTy → Type}
variable {U : Type} [URA U] {Lvl : Type}

local notation "𝕄" => MT nD τ sig Ix Val ℕ U Lvl

/-- The elements under the memref, whole, reading as `X`. -/
def Reads (thr : Thread nD τ) {sp : Space} {s : Shape} {e : EltTy} (m : Memref sig thr.2.kind sp s e) (X : s.Idx → Val e) : sProp 𝕄 :=
  iprop(∃ f, ⌜m.view.read Val f = X⌝ ∗ m.view.loc thr ↦[m.view.set]{fullShare} f)

section Basic

variable {thr : Thread nD τ} {sp : Space} {s : Shape} {e : EltTy} {m : Memref sig thr.2.kind sp s e}

theorem reads_intro (f : Buf Val (m.view.loc thr)) :
    (m.view.loc thr ↦[m.view.set]{fullShare} f : sProp 𝕄) ⊢ Reads thr m (m.view.read Val f) := by
  unfold Reads
  iintro H
  iexists f
  isplitr; · ipureintro; rfl
  iexact H

/-- Elements that read as `f` reads are held at `f`. -/
theorem reads_elim {X : s.Idx → Val e} (f : Buf Val (m.view.loc thr)) (h : X = m.view.read Val f) :
    (Reads thr m X : sProp 𝕄) ⊢ m.view.loc thr ↦[m.view.set]{fullShare} f := by
  unfold Reads
  iintro ⟨%g, %hg, H⟩
  have hfg : ∀ i ∈ m.view.set, g i = f i := by
    intro i hi
    obtain ⟨x, -, rfl⟩ := Finset.mem_map.mp hi
    have h' := congrFun (hg.trans h) x
    rw [View.read_apply, View.read_apply] at h'
    exact (cast_inj _).mp h'
  iapply (Entails.of_eq (pointsTo_congr hfg))
  iexact H

theorem reads_congr {X Y : s.Idx → Val e} (h : X = Y) : (Reads thr m X : sProp 𝕄) ⊢ Reads thr m Y := Entails.of_eq (h ▸ rfl)

end Basic

section Rules

variable [Preorder Lvl] {Λ : Labels} {defs : Defs nD τ sig Val Λ} (𝒱 : Variants) (thr : Thread nD τ) (bd : Option 𝒱.V)
variable {α : Type} {Q : α → sProp (MT nD τ sig Ix Val ℕ U Lvl)}

/-- A load of a rectangle of the memref. -/
theorem wp_reads_load {sp : CoreSpace} {s : Shape} {e : EltTy} {m : Memref sig thr.2.kind sp s e} {X : s.Idx → Val e} {r : Rect s} {hl : m.view.LoadsAt r.toLoadRect}
    {k : (r.shape.Idx → Val e) → Prog (TpuEff nD τ sig Val Λ thr.2) α} :
    (Reads thr m X : sProp 𝕄)
      ⊢ iprop((Reads thr m X -∗ wp frame (wpE defs 𝒱 thr bd) Set.univ (k fun x => X (r.emb x)) Q)
        -∗ wp frame (wpE defs 𝒱 thr bd) Set.univ (.op (.load m r.toLoadRect hl) k) Q) := by
  iintro HX Hk
  unfold Reads
  icases HX with ⟨%f, %hf, H⟩
  iapply (wp_load 𝒱 thr bd Set.univ (m := m) (r := r.toLoadRect) (View.setOn_subset_set _ _)) $$ H
  iintro H
  rw [show m.view.readAt Val r.toLoadRect f = fun x => X (r.emb x) from by
    rw [← hf]; rfl]
  iapply Hk
  iexists f
  isplitr; · ipureintro; exact hf
  iexact H

/-- An unmasked store to a rectangle of the memref: it reads as `Y` afterwards when `Y` is what was stored on the rectangle
    and what it read before elsewhere. -/
theorem wp_reads_store {sp : CoreSpace} {s : Shape} {e : EltTy} {m : Memref sig thr.2.kind sp s e} {X : s.Idx → Val e} (Y : s.Idx → Val e) {r : Rect s}
    {w : r.shape.Idx → Val e} {hx : (m.access r).Stores Finset.univ} {hm : (Finset.univ : Finset r.shape.Idx) = Finset.univ ∨ ∀ a, r.stride a = 1}
    {k : PUnit → Prog (TpuEff nD τ sig Val Λ thr.2) α}
    (hin : ∀ x, Y (r.emb x) = w x) (hout : ∀ y, (∀ x, r.emb x ≠ y) → Y y = X y) :
    (Reads thr m X : sProp 𝕄)
      ⊢ iprop((Reads thr m Y -∗ wp frame (wpE defs 𝒱 thr bd) Set.univ (k ⟨⟩) Q)
        -∗ wp frame (wpE defs 𝒱 thr bd) Set.univ (.op (.store m r w Finset.univ hx hm) k) Q) := by
  iintro HX Hk
  unfold Reads
  icases HX with ⟨%f, %hf, H⟩
  iapply (wp_store 𝒱 thr bd Set.univ (m := m) (r := r) (S := m.view.set)
    ((View.setOn_subset_set _ _).trans (View.set_slice_subset _ _))) $$ H
  iintro H
  iapply Hk
  iexists (m.access r).write Val f w Finset.univ
  isplitr
  · ipureintro
    funext y
    by_cases hy : ∃ x, r.emb x = y
    · obtain ⟨x, rfl⟩ := hy
      rw [View.read_slice_write_emb r f w (Finset.mem_univ x), hin]
    · rw [View.read_slice_write_of_not_mem r f w _ (by
        intro h; obtain ⟨x, -, hx⟩ := Finset.mem_map.mp h; exact hy ⟨x, hx⟩), hf, hout y fun x hx => hy ⟨x, hx⟩]
  iexact H

variable (EC : UEmb Counters (MT nD τ sig Ix Val ℕ U Lvl))

/-- A copy of `src` to `dst` on the subcore's semaphore `sem`, not yet waited for: at the wait it hands back both memrefs,
    `dst` reading as `src` does. -/
def Copying {sp sp' : Space} {s : Shape} {e : EltTy} (ι : Ix) (sem : DmaSem sig) (src : Memref sig thr.2.kind sp s e) (dst : Memref sig thr.2.kind sp' s e)
    (X : s.Idx → Val e) : sProp 𝕄 :=
  Transfers.Flight EC thr (.dma sem) ι dst.view.dmaCredit iprop(Reads thr dst X ∗ Reads thr src X)

/-- Starting a copy. -/
theorem wp_copy_start [EC.LandsIn (upEmb : UEmb _ 𝕄)] {sp sp' : Space} {s : Shape} {e : EltTy} (ι : Ix) {sem : DmaSem sig}
    {src : Memref sig thr.2.kind sp s e} {dst : Memref sig thr.2.kind sp' s e} {X Y : s.Idx → Val e} (hpos : 0 < s.numel)
    {hsrc : src.view.WordExact} {hdst : dst.view.WordExact} {hsem : DmaTarget.Typed (nD := nD) sp (.dma sem) (.here dst)}
    {k : PUnit → Prog (TpuEff nD τ sig Val Λ thr.2) α} :
    iprop(Reads thr src X ∗ Reads thr dst Y ∗ semVal (thr, .dma sem) 0)
      ⊢ iprop((Copying thr EC ι sem src dst X -∗ wp frame (wpE defs 𝒱 thr bd) Set.univ (k ⟨⟩) Q)
        -∗ wp frame (wpE defs 𝒱 thr bd) Set.univ (.op (.enqueueDmaAs src (.here dst) .same (.dma sem) hsrc hdst hsem) k) Q) := by
  iintro ⟨Hs, Hd, Hv⟩ Hk
  unfold Reads
  icases Hs with ⟨%f, %hf, Hs⟩
  icases Hd with ⟨%g, %hg, Hd⟩
  iapply (Transfers.wp_dmaLocal EC 𝒱 thr bd (src := src) (dst := dst) (q := fullShare) (fs := f) (fd := g) (Sd := dst.view.set)
    ι dst.view.dmaCredit rfl (View.dmaCredit_pos _ hpos) subset_rfl) $$ [Hs Hd Hv]
  · isplitl [Hs]; · iexact Hs
    isplitl [Hd] <;> iassumption
  iintro HF
  iapply Hk
  unfold Copying
  iapply (Transfers.Flight_mono (EC := EC) (c := thr) (D' := iprop(Reads thr dst X ∗ Reads thr src X)) (by
    iintro ⟨Hd, Hs⟩
    unfold Reads
    isplitl [Hd]
    · iexists _
      isplitr
      swap; · iexact Hd
      ipureintro
      rw [View.read_write_univ, hf]
    · iexists f
      isplitr; · ipureintro; exact hf
      iexact Hs)) $$ HF

/-- Waiting for it. The wait names a memref of the destination's credit. -/
theorem wp_copy_wait [EC.LandsIn (upEmb : UEmb _ 𝕄)] {sp sp' spw spw' : Space} {s sw' : Shape} {e ew' : EltTy} (ι : Ix) {sem : DmaSem sig}
    {src : Memref sig thr.2.kind sp s e} {dst : Memref sig thr.2.kind sp' s e} {X : s.Idx → Val e}
    {srcw : Memref sig thr.2.kind spw' sw' ew'} {dstw : Memref sig thr.2.kind spw s e} {hsrc : srcw.view.WordExact} {hdst : dstw.view.WordExact}
    (hw : dstw.view.dmaCredit = dst.view.dmaCredit)
    {k : PUnit → Prog (TpuEff nD τ sig Val Λ thr.2) α} {O : CellTallies nD τ sig Ix} {W : Waits sig Ix} :
    iprop(Copying thr EC ι sem src dst X ∗ owes thr O W ∗ Transfers.MayWaits thr ι O)
      ⊢ iprop((iprop(Reads thr dst X ∗ Reads thr src X ∗ semVal (thr, .dma sem) 0 ∗ owes thr O (insert (SemLoc.dma sem, ι) W))
          -∗ wp frame (wpE defs 𝒱 thr bd) Set.univ (k ⟨⟩) Q)
        -∗ wp frame (wpE defs 𝒱 thr bd) Set.univ (.op (.waitDma2 sem srcw dstw hsrc hdst) k) Q) := by
  iintro ⟨HF, HO, Hmw⟩ Hk
  unfold Copying
  ihave Hm := (Transfers.MayWaits.elim (.dma sem)) $$ Hmw
  iapply (Transfers.wp_waitLocalO EC 𝒱 thr bd (dstw := dstw) (srcw := srcw) ι hw) $$ [HF HO Hm]
  · isplitl [HF]; · iexact HF
    isplitl [HO] <;> iassumption
  iintro ⟨⟨Hd, Hs⟩, Hv, HO⟩
  iapply Hk
  isplitl [Hd]; · iexact Hd
  isplitl [Hs]; · iexact Hs
  isplitl [Hv] <;> iassumption

end Rules

end Cert.Slots
-- ==== Proof.SetupIdeal.lean ====
/-
  THE PROGRAM AS THE LAUNCH THEOREM SEES IT: the label signature and the launch configuration, the handshake facts, the
  resource algebra (the handshakes' rounds beside the transfers' counters), and one vector subcore as a thread.
-/
module

public import proofs.«01_k».proof.Defs
public import proofs.«01_k».proof.Proof.Slots
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The transfers' counters in the resource algebra. -/
abbrev EC : UEmb Counters (MT nD τ sig (HIx 1) (Elt F) ℕ UU ℕ) := (UEmb.inr : UEmb Counters UU).trans uEmb
abbrev EH : Emb UH (MT nD τ sig (HIx 1) (Elt F) ℕ UU ℕ) := embL

/-- The vector subcore that runs the kernel at grid coordinates `i`. -/
abbrev cV (i : grid0.Coords) : Fin τ.nSC := (i 0).castLE hcore0
abbrev jV (i : grid0.Coords) : Fin τ.nSub := (i 1).castLE hsub0
abbrev tile (d : Dev nD) (i : grid0.Coords) : Thread nD τ := V d (cV i) (jV i)

end Cert.KernelIdeal.Tiles
-- ==== Proof.RowIdeal.lean ====
/-
  ONE ROW OF A CHUNK. A tile keeps the running sums of its 256 columns as sixteen vectors of sixteen lanes. At a row it stores each
  vector to the row of the output slot and then adds the input slot's row to it. Stated by contents: the sums before are `C`, the
  input slot reads as `X`, the output slot as `Y`.
-/
module

public import proofs.«01_k».proof.Proof.SetupIdeal
public import Idealize.ShloMosaic.Lib.Pipeline.Value

@[expose] public section

noncomputable section

namespace Cert.KernelIdeal.Tiles

open Cert.KernelIdeal Cert.KernelIdeal.Gen Cert.Slots

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "E32" => Elt F EltTy.f32

/-! ## Contents -/

/-- A slot's or a chunk's contents, by row and column. -/
abbrev grid (X : Fin 64 → Fin 256 → E32) : S1x64x256.Idx → E32 := fun y => X (y 1) (y 2)
/-- The carry buffer's contents, by column. -/
abbrev cols (C : Fin 256 → E32) : S256.Idx → E32 := fun y => C (y 0)

/-- Lanes `n` to `n + 15` of the sums. -/
def lane (C : Fin 256 → E32) (n : ℕ) : FVec F S16 .f32 := fun x => C (Fin.ofNat 256 (n + (x 0).val))

/-- The first `n` columns of row `r` at `C`, the rest as `Y`. -/
def put (Y : Fin 64 → Fin 256 → E32) (C : Fin 256 → E32) (r n : ℕ) : Fin 64 → Fin 256 → E32 :=
  fun row f => if row.val = r ∧ f.val < n then C f else Y row f

/-- The sums after one more row `x`. -/
def addRow (C x : Fin 256 → E32) : Fin 256 → E32 := fun f => FloatOps.addf (φ := .f32) (C f) (x f)

/-- Lanes `n` to `n + 15` of row `r` as a load of the slot reads them. -/
def rowLane (X : Fin 64 → Fin 256 → E32) (r n : ℕ) : FVec F S1x1x16 .f32 := fun x => X (Fin.ofNat 64 r) (Fin.ofNat 256 (n + (x 2).val))

theorem put_zero (Y : Fin 64 → Fin 256 → E32) (C : Fin 256 → E32) (r : ℕ) : put Y C r 0 = Y := by
  funext row f; simp [put]

theorem castUp_lane (C : Fin 256 → E32) (n : ℕ) (x : S1x1x16.Idx) (h : S16.ShapeCasts S1x1x16) :
    shapeCast S1x1x16 (lane C n) h x = C (Fin.ofNat 256 (n + (x 2).val)) := by
  rw [shapeCast_apply (lane C n) h x (fun a => match a with | 0 => x 2) (by
    rw [Shape.rowMajor_val_one, Shape.rowMajor_val_three]
    have h0 : (x 0).val < 1 := (x 0).isLt
    have h1 : (x 1).val < 1 := (x 1).isLt
    simp [show (x 0).val = 0 by omega, show (x 1).val = 0 by omega])]
  rfl

theorem castDown_rowLane (X : Fin 64 → Fin 256 → E32) (r n : ℕ) (x : S16.Idx) (h : S1x1x16.ShapeCasts S16) :
    shapeCast S16 (rowLane X r n) h x = X (Fin.ofNat 64 r) (Fin.ofNat 256 (n + (x 0).val)) := by
  rw [shapeCast_apply (rowLane X r n) h x (fun a => match a with | 0 => ⟨0, by decide⟩ | 1 => ⟨0, by decide⟩ | 2 => x 0) (by
    rw [Shape.rowMajor_val_one, Shape.rowMajor_val_three]
    simp)]
  rfl

theorem addf_lane (C : Fin 256 → E32) (X : Fin 64 → Fin 256 → E32) (r n : ℕ) (h : S1x1x16.ShapeCasts S16) :
    addf (lane C n) (shapeCast S16 (rowLane X r n) h) = lane (addRow C (X (Fin.ofNat 64 r))) n := by
  funext x
  show FloatOps.addf (lane C n x) (shapeCast S16 (rowLane X r n) h x) = _
  rw [castDown_rowLane]
  rfl

/-! ## One group of sixteen lanes -/

section Group

variable (d : Dev nD) (i : grid0.Coords)
variable {α : Type} {Q : α → sProp (MT nD τ sig (HIx 1) (Elt F) ℕ UU ℕ)}

/-- The output slot's lanes are read, then written at the sums; the input slot's lanes are read. -/
theorem wp_group {mo mi : Memref sig .scVector .vmem S1x64x256 .f32} {Y X : Fin 64 → Fin 256 → E32} {C : Fin 256 → E32}
    {o : Fin 3 → ℕ} {r n : ℕ} (ho : o = ![0, r, n]) (hr : r < 64) (hn : n + 16 ≤ 256)
    {inb : ∀ a, o a + S1x1x16.size a ≤ S1x64x256.size a} {hs : S16.ShapeCasts S1x1x16}
    {h1 : mo.view.LoadsAt (Rect.unit (s := S1x64x256) o S1x1x16.size inb).toLoadRect}
    {h2 : (mo.access (Rect.unit (s := S1x64x256) o S1x1x16.size inb)).Stores Finset.univ} {h3}
    {h4 : mi.view.LoadsAt (Rect.unit (s := S1x64x256) o S1x1x16.size inb).toLoadRect}
    {k : Vec F S1x1x16 .f32 → Prog (TpuEff nD τ sig (Elt F) Λ₀ (.scVector (cV i) (jV i))) α} :
    iprop(Reads (tile d i) mo (grid (put Y C r n)) ∗ Reads (tile d i) mi (grid X))
      ⊢ iprop(((Reads (tile d i) mo (grid (put Y C r (n + 16))) ∗ Reads (tile d i) mi (grid X) : sProp 𝕄)
          -∗ wp frame (wpE (defs₀ (F := F)) 𝒱₀ (tile d i) none) Set.univ (k (rowLane X r n)) Q)
        -∗ wp frame (wpE (defs₀ (F := F)) 𝒱₀ (tile d i) none) Set.univ
          (.op (.load mo (Rect.unit (s := S1x64x256) o S1x1x16.size inb).toLoadRect h1) fun _ =>
            .op (.store mo (Rect.unit (s := S1x64x256) o S1x1x16.size inb) (shapeCast S1x1x16 (lane C n) hs) Finset.univ h2 h3) fun _ =>
              .op (.load mi (Rect.unit (s := S1x64x256) o S1x1x16.size inb).toLoadRect h4) k) Q) := by
  subst ho
  have e0 : ∀ (x : S1x1x16.Idx) , ((Rect.unit (s := S1x64x256) ![0, r, n] S1x1x16.size inb).emb x 1 : Fin 64).val = r := by
    intro x
    rw [Rect.emb_apply]
    have h1 : (x 1).val < 1 := (x 1).isLt
    show r + 1 * (x 1).val = r
    omega
  have e1 : ∀ (x : S1x1x16.Idx) , ((Rect.unit (s := S1x64x256) ![0, r, n] S1x1x16.size inb).emb x 2 : Fin 256).val = n + (x 2).val := by
    intro x
    rw [Rect.emb_apply]
    show n + 1 * (x 2).val = _
    omega
  iintro ⟨Ho, Hi⟩ Hk
  iapply (wp_reads_load 𝒱₀ (tile d i) none (m := mo)) $$ Ho
  iintro Ho
  iapply (wp_reads_store 𝒱₀ (tile d i) none (m := mo) (grid (put Y C r (n + 16))) (by
    intro x
    rw [castUp_lane]
    show put Y C r (n + 16) _ _ = _
    have hx : (x 2).val < 16 := (x 2).isLt
    unfold put
    rw [if_pos ⟨e0 x, by rw [e1 x]; omega⟩]
    congr 1
    apply Fin.ext
    rw [e1 x]
    show _ = (n + (x 2).val) % 256
    omega) (by
    intro y hy
    show put Y C r (n + 16) _ _ = put Y C r n _ _
    unfold put
    by_cases h : (y 1 : Fin 64).val = r ∧ n ≤ (y 2 : Fin 256).val ∧ (y 2 : Fin 256).val < n + 16
    · exfalso
      refine hy (show S1x1x16.Idx from fun a => match a with | 0 => ⟨0, by decide⟩ | 1 => ⟨0, by decide⟩ | 2 => ⟨(y 2 : Fin 256).val - n, by show _ < 16; omega⟩) ?_
      funext a
      apply Fin.ext
      match a with
      | 0 =>
        have h0 : (y 0 : Fin 1).val < 1 := (y 0).isLt
        rw [Rect.emb_apply]
        show 0 + 1 * 0 = (y 0 : Fin 1).val
        omega
      | 1 => exact (e0 _).trans h.1.symm
      | 2 =>
        refine (e1 _).trans ?_
        show n + ((y 2 : Fin 256).val - n) = (y 2 : Fin 256).val
        omega
    · have : ((y 1 : Fin 64).val = r ∧ (y 2 : Fin 256).val < n + 16) ↔ ((y 1 : Fin 64).val = r ∧ (y 2 : Fin 256).val < n) := by omega
      simp only [this])) $$ Ho
  iintro Ho
  iapply (wp_reads_load 𝒱₀ (tile d i) none (m := mi)) $$ Hi
  iintro Hi
  rw [show (fun x => grid X ((Rect.unit (s := S1x64x256) ![0, r, n] S1x1x16.size inb).emb x)) = rowLane X r n from by
    funext x
    have hx : (x 2).val < 16 := (x 2).isLt
    show X _ _ = X _ _
    congr 1
    · apply Fin.ext
      refine (e0 x).trans ?_
      show r = r % 64
      omega
    · apply Fin.ext
      refine (e1 x).trans ?_
      show n + (x 2).val = (n + (x 2).val) % 256
      omega]
  iapply Hk
  isplitl [Ho] <;> iassumption

/-- The sums as the loop carries them. -/
def lanes (C : Fin 256 → E32) : FVec F S16 .f32 × FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32 :=
  (lane C 0, lane C 16, lane C 32, lane C 48, lane C 64, lane C 80, lane C 96, lane C 112, lane C 128, lane C 144, lane C 160, lane C 176, lane C 192, lane C 208, lane C 224, lane C 240)

/-- The kernel's operands and slots, in the order its functions take them. -/
theorem row_step (arg2 : Memref sig .scVector .hbm S4x4096x2048 .f32) (harg2 : arg2.IsWhole) (arg3 : Memref sig .scVector .hbm S4x4096x2048 .f32) (harg3 : arg3.IsWhole)
    (arg4 : Memref sig .scVector .vmem S256 .f32) (harg4 : arg4.IsWhole) (bi : Memref sig .scVector .vmem S2x1x64x256 .f32) (hbi : bi.IsWhole) (si : DmaSems sig S2)
    (bo : Memref sig .scVector .vmem S2x1x64x256 .f32) (hbo : bo.IsWhole) (so : DmaSems sig S2) (wi wo : BitVec 32) (hwi : k0_chk3 wi) (hwo : k0_chk2 wo)
    (z0 z1 z2 z3 z4 z5 z6 z7 z8 z9 z10 z11 z12 z13 z14 z15 : FVec F S16 .f32) (w1 w2 : BitVec 32) (t2 : Fin k0_t2_loop.trips)
    {mo mi : Memref sig .scVector .vmem S1x64x256 .f32}
    (hmo : mo = (bo.slice (Rect.unit (s := S2x1x64x256) (k0_off10 wo) S1x1x64x256.size (k0_off10_inb wo hwo)) (fun _ => rfl)).squeeze S1x64x256 squeezes_S1x1x64x256_S1x64x256)
    (hmi : mi = (bi.slice (Rect.unit (s := S2x1x64x256) (k0_off12 wi) S1x1x64x256.size (k0_off12_inb wi hwi)) (fun _ => rfl)).squeeze S1x64x256 squeezes_S1x1x64x256_S1x64x256)
    (Y X : Fin 64 → Fin 256 → E32) (C : Fin 256 → E32) :
    iprop(Reads (tile d i) mo (grid Y) ∗ Reads (tile d i) mi (grid X))
      ⊢ wp frame (wpE (defs₀ (F := F)) 𝒱₀ (tile d i) none) Set.univ
          (k0_t2_body i arg2 harg2 arg3 harg3 arg4 harg4 bi hbi si bo hbo so wi wo hwi hwo z0 z1 z2 z3 z4 z5 z6 z7 z8 z9 z10 z11 z12 z13 z14 z15 w1 w2 t2 (lanes C))
          fun acc => (iprop(⌜acc = lanes (addRow C (X (Fin.ofNat 64 t2.val)))⌝ ∗ Reads (tile d i) mo (grid (put Y C t2.val 256)) ∗ Reads (tile d i) mi (grid X)) : sProp 𝕄) := by
  have ht : t2.val < 64 := t2.isLt
  subst hmo hmi
  iintro ⟨Ho, Hi⟩
  ihave Ho := (reads_congr (Y := grid (put Y C t2.val 0)) (by rw [put_zero])) $$ Ho
  unfold lanes
  sl_unfold [k0_t2_body, k0_part3, k0_part4, k0_part5, k0_part6, k0_part7, k0_part8]
  iapply (wp_group d i (k0_off11_eq t2) ht (n := 0) (by decide)) $$ [Ho Hi]; · isplitl [Ho] <;> iassumption
  iintro ⟨Ho, Hi⟩
  iapply (wp_group d i (k0_off13_eq t2) ht (n := 16) (by decide)) $$ [Ho Hi]; · isplitl [Ho] <;> iassumption
  iintro ⟨Ho, Hi⟩
  iapply (wp_group d i (k0_off14_eq t2) ht (n := 32) (by decide)) $$ [Ho Hi]; · isplitl [Ho] <;> iassumption
  iintro ⟨Ho, Hi⟩
  iapply (wp_group d i (k0_off15_eq t2) ht (n := 48) (by decide)) $$ [Ho Hi]; · isplitl [Ho] <;> iassumption
  iintro ⟨Ho, Hi⟩
  iapply (wp_group d i (k0_off16_eq t2) ht (n := 64) (by decide)) $$ [Ho Hi]; · isplitl [Ho] <;> iassumption
  iintro ⟨Ho, Hi⟩
  iapply (wp_group d i (k0_off17_eq t2) ht (n := 80) (by decide)) $$ [Ho Hi]; · isplitl [Ho] <;> iassumption
  iintro ⟨Ho, Hi⟩
  iapply (wp_group d i (k0_off18_eq t2) ht (n := 96) (by decide)) $$ [Ho Hi]; · isplitl [Ho] <;> iassumption
  iintro ⟨Ho, Hi⟩
  iapply (wp_group d i (k0_off19_eq t2) ht (n := 112) (by decide)) $$ [Ho Hi]; · isplitl [Ho] <;> iassumption
  iintro ⟨Ho, Hi⟩
  iapply (wp_group d i (k0_off20_eq t2) ht (n := 128) (by decide)) $$ [Ho Hi]; · isplitl [Ho] <;> iassumption
  iintro ⟨Ho, Hi⟩
  iapply (wp_group d i (k0_off21_eq t2) ht (n := 144) (by decide)) $$ [Ho Hi]; · isplitl [Ho] <;> iassumption
  iintro ⟨Ho, Hi⟩
  iapply (wp_group d i (k0_off22_eq t2) ht (n := 160) (by decide)) $$ [Ho Hi]; · isplitl [Ho] <;> iassumption
  iintro ⟨Ho, Hi⟩
  iapply (wp_group d i (k0_off23_eq t2) ht (n := 176) (by decide)) $$ [Ho Hi]; · isplitl [Ho] <;> iassumption
  iintro ⟨Ho, Hi⟩
  iapply (wp_group d i (k0_off24_eq t2) ht (n := 192) (by decide)) $$ [Ho Hi]; · isplitl [Ho] <;> iassumption
  iintro ⟨Ho, Hi⟩
  iapply (wp_group d i (k0_off25_eq t2) ht (n := 208) (by decide)) $$ [Ho Hi]; · isplitl [Ho] <;> iassumption
  iintro ⟨Ho, Hi⟩
  iapply (wp_group d i (k0_off26_eq t2) ht (n := 224) (by decide)) $$ [Ho Hi]; · isplitl [Ho] <;> iassumption
  iintro ⟨Ho, Hi⟩
  iapply (wp_group d i (k0_off27_eq t2) ht (n := 240) (by decide)) $$ [Ho Hi]; · isplitl [Ho] <;> iassumption
  iintro ⟨Ho, Hi⟩
  iapply (le_wp_ret _ _)
  isplitr
  · ipureintro
    simp only [← addf_lane C X t2.val _ shapeCasts_S1x1x16_S16]
    rfl
  isplitl [Ho] <;> iassumption

/-! ## The chunk's rows -/

/-- The sums after the first `n` of the rows `A`, from zero. -/
def run (A : ℕ → Fin 256 → E32) : ℕ → Fin 256 → E32
  | 0 => fun _ => Scalar.ofBits .f32 0x00000000#32
  | n + 1 => addRow (run A n) (A n)

/-- The loop over a chunk's 64 rows, the chunk being rows `n` to `n + 63` of `A`: the output slot reads as the sums before each
    row, and the loop ends at the sums after the last. -/
theorem chunk_loop (arg2 : Memref sig .scVector .hbm S4x4096x2048 .f32) (harg2 : arg2.IsWhole) (arg3 : Memref sig .scVector .hbm S4x4096x2048 .f32) (harg3 : arg3.IsWhole)
    (arg4 : Memref sig .scVector .vmem S256 .f32) (harg4 : arg4.IsWhole) (bi : Memref sig .scVector .vmem S2x1x64x256 .f32) (hbi : bi.IsWhole) (si : DmaSems sig S2)
    (bo : Memref sig .scVector .vmem S2x1x64x256 .f32) (hbo : bo.IsWhole) (so : DmaSems sig S2) (wi wo : BitVec 32) (hwi : k0_chk3 wi) (hwo : k0_chk2 wo)
    (z0 z1 z2 z3 z4 z5 z6 z7 z8 z9 z10 z11 z12 z13 z14 z15 : FVec F S16 .f32) (w1 w2 : BitVec 32)
    {mo mi : Memref sig .scVector .vmem S1x64x256 .f32}
    (hmo : mo = (bo.slice (Rect.unit (s := S2x1x64x256) (k0_off10 wo) S1x1x64x256.size (k0_off10_inb wo hwo)) (fun _ => rfl)).squeeze S1x64x256 squeezes_S1x1x64x256_S1x64x256)
    (hmi : mi = (bi.slice (Rect.unit (s := S2x1x64x256) (k0_off12 wi) S1x1x64x256.size (k0_off12_inb wi hwi)) (fun _ => rfl)).squeeze S1x64x256 squeezes_S1x1x64x256_S1x64x256)
    (Y : Fin 64 → Fin 256 → E32) (A : ℕ → Fin 256 → E32) (n : ℕ) {init} (hinit : init = lanes (run A n))
    {kk : _ → Prog (TpuEff nD τ sig (Elt F) Λ₀ (.scVector (cV i) (jV i))) α} :
    iprop(Reads (tile d i) mo (grid Y) ∗ Reads (tile d i) mi (grid fun r => A (n + r.val)))
      ⊢ iprop(((Reads (tile d i) mo (grid fun r => run A (n + r.val)) ∗ Reads (tile d i) mi (grid fun r => A (n + r.val)) : sProp 𝕄)
          -∗ wp frame (wpE (defs₀ (F := F)) 𝒱₀ (tile d i) none) Set.univ (kk (lanes (run A (n + 64)))) Q)
        -∗ wp frame (wpE (defs₀ (F := F)) 𝒱₀ (tile d i) none) Set.univ
          (Scf.Loop.for k0_t2_loop k0_t2_ok init
            (k0_t2_body i arg2 harg2 arg3 harg3 arg4 harg4 bi hbi si bo hbo so wi wo hwi hwo z0 z1 z2 z3 z4 z5 z6 z7 z8 z9 z10 z11 z12 z13 z14 z15 w1 w2) >>= kk) Q) := by
  subst hinit
  iintro ⟨Ho, Hi⟩ Hk
  iapply (Scf.wp_for_bind frame (wpE (defs₀ (F := F)) 𝒱₀ (tile d i) none) Set.univ k0_t2_loop.lb k0_t2_loop.ub k0_t2_loop.st k0_t2_ok (lanes (run A n))
    (k0_t2_body i arg2 harg2 arg3 harg3 arg4 harg4 bi hbi si bo hbo so wi wo hwi hwo z0 z1 z2 z3 z4 z5 z6 z7 z8 z9 z10 z11 z12 z13 z14 z15 w1 w2)
    (fun r acc => (iprop(∃ Y' : Fin 64 → Fin 256 → E32, ⌜acc = lanes (run A (n + r)) ∧ ∀ row : Fin 64, row.val < r → Y' row = run A (n + row.val)⌝
        ∗ Reads (tile d i) mo (grid Y') ∗ Reads (tile d i) mi (grid fun r => A (n + r.val))) : sProp 𝕄)) (by
      intro t acc
      iintro ⟨%Y', %h, Ho, Hi⟩
      obtain ⟨hacc, hY'⟩ := h
      subst hacc
      have ht : t.val < 64 := t.isLt
      have hm : t.val % 64 = t.val := Nat.mod_eq_of_lt ht
      iapply (wp_wand_r (Fr := frame))
      isplitl [Ho Hi]
      · iapply (row_step d i arg2 harg2 arg3 harg3 arg4 harg4 bi hbi si bo hbo so wi wo hwi hwo z0 z1 z2 z3 z4 z5 z6 z7 z8 z9 z10 z11 z12 z13 z14 z15 w1 w2 t hmo hmi
          Y' (fun r => A (n + r.val)) (run A (n + t.val)))
        isplitl [Ho] <;> iassumption
      iintro %acc ⟨%hacc, Ho, Hi⟩
      iexists put Y' (run A (n + t.val)) t.val 256
      isplitr
      · ipureintro
        refine ⟨?_, ?_⟩
        · rw [hacc]
          show lanes (addRow (run A (n + t.val)) (A (n + t.val % 64))) = lanes (run A (n + (t.val + 1)))
          rw [hm]
          rfl
        · intro row hrow
          funext f
          unfold put
          by_cases h : row.val = t.val
          · rw [if_pos ⟨h, f.isLt⟩, h]
          · rw [if_neg fun h' => h h'.1, hY' row (by omega)]
      isplitl [Ho] <;> iassumption)) $$ [Ho Hi]
  · iexists Y
    isplitr
    · ipureintro
      exact ⟨rfl, fun row h => absurd h (Nat.not_lt_zero _)⟩
    isplitl [Ho] <;> iassumption
  iintro %acc ⟨%Y', %h, Ho, Hi⟩
  obtain ⟨hacc, hY'⟩ := h
  have hY : Y' = fun row => run A (n + row.val) := funext fun row => hY' row row.isLt
  subst hacc hY
  iapply Hk
  isplitl [Ho] <;> iassumption

end Group

end Cert.KernelIdeal.Tiles
-- ==== Proof.WordsIdeal.lean ====
/-
  THE KERNEL'S CONTROL WORDS. Every slot index, offset and condition of the kernel is a chain of 32-bit operations on the tile's
  coordinates, the trip and the loop's carried words. This file states what each comes to, at the words the loop carries at trip
  `t`: the chunk fetched next, the chunk computed, the chunk written and the chunk waited for.
-/
module

public import proofs.«01_k».proof.Proof.SetupIdeal
public import Idealize.ShloMosaic.Lib.Decide

@[expose] public section

noncomputable section

namespace Cert.KernelIdeal.Tiles

open Cert.KernelIdeal Cert.KernelIdeal.Gen Cert.Slots

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "E32" => Elt F EltTy.f32

/-- The tile's number: sixteen tiles to a SparseCore. -/
abbrev num (i : grid0.Coords) : ℕ := (i 1).val + 16 * (i 0).val

/-- A count as the word the kernel computes with. -/
abbrev w32 (n : ℕ) : BitVec 32 := BitVec.ofNat 32 n

/-! ## Slots: the second of two buffers at an odd count -/

theorem off4_eq {n : ℕ} (h : n < 65) : k0_off4 (w32 n) = ![n % 2, 0, 0, 0] :=
  (by decide +kernel : ∀ n : Fin 65, k0_off4 (w32 n.val) = ![n.val % 2, 0, 0, 0]) ⟨n, h⟩
theorem off6_eq {n : ℕ} (h : n < 65) : k0_off6 (w32 n) = ![n % 2] :=
  (by decide +kernel : ∀ n : Fin 65, k0_off6 (w32 n.val) = ![n.val % 2]) ⟨n, h⟩
theorem off7_eq {n : ℕ} (h : n < 65) : k0_off7 (w32 n) = ![n % 2, 0, 0, 0] :=
  (by decide +kernel : ∀ n : Fin 65, k0_off7 (w32 n.val) = ![n.val % 2, 0, 0, 0]) ⟨n, h⟩
theorem off9_eq {n : ℕ} (h : n < 65) : k0_off9 (w32 n) = ![n % 2] :=
  (by decide +kernel : ∀ n : Fin 65, k0_off9 (w32 n.val) = ![n.val % 2]) ⟨n, h⟩
theorem off10_eq {n : ℕ} (h : n < 65) : k0_off10 (w32 n) = ![n % 2, 0, 0, 0] :=
  (by decide +kernel : ∀ n : Fin 65, k0_off10 (w32 n.val) = ![n.val % 2, 0, 0, 0]) ⟨n, h⟩
theorem off12_eq {n : ℕ} (h : n < 65) : k0_off12 (w32 n) = ![n % 2, 0, 0, 0] :=
  (by decide +kernel : ∀ n : Fin 65, k0_off12 (w32 n.val) = ![n.val % 2, 0, 0, 0]) ⟨n, h⟩
theorem off28_eq {n : ℕ} (h : n < 65) : k0_off28 (w32 n) = ![n % 2, 0, 0, 0] :=
  (by decide +kernel : ∀ n : Fin 65, k0_off28 (w32 n.val) = ![n.val % 2, 0, 0, 0]) ⟨n, h⟩
theorem off30_eq {n : ℕ} (h : n < 65) : k0_off30 (w32 n) = ![n % 2] :=
  (by decide +kernel : ∀ n : Fin 65, k0_off30 (w32 n.val) = ![n.val % 2]) ⟨n, h⟩
theorem off31_eq {n : ℕ} (h : n < 65) : k0_off31 (w32 n) = ![n % 2, 0, 0, 0] :=
  (by decide +kernel : ∀ n : Fin 65, k0_off31 (w32 n.val) = ![n.val % 2, 0, 0, 0]) ⟨n, h⟩
theorem off33_eq {n : ℕ} (h : n < 65) : k0_off33 (w32 n) = ![n % 2] :=
  (by decide +kernel : ∀ n : Fin 65, k0_off33 (w32 n.val) = ![n.val % 2]) ⟨n, h⟩
theorem off36_eq {n : ℕ} (h : n < 65) : k0_off36 (w32 n) = ![n % 2] :=
  (by decide +kernel : ∀ n : Fin 65, k0_off36 (w32 n.val) = ![n.val % 2]) ⟨n, h⟩
theorem off37_eq {n : ℕ} (h : n < 65) : k0_off37 (w32 n) = ![n % 2, 0, 0, 0] :=
  (by decide +kernel : ∀ n : Fin 65, k0_off37 (w32 n.val) = ![n.val % 2, 0, 0, 0]) ⟨n, h⟩

/-! ## Chunks: the tile's rows and columns of the arrays -/

/-- Where the tile's chunk `j` begins. -/
abbrev chunkOff (i : grid0.Coords) (j : ℕ) : Fin 3 → ℕ := ![num i / 8, 64 * (j % 64), 256 * (num i % 8)]

theorem off2_eq : ∀ i : grid0.Coords, k0_off2 i = chunkOff i 0 := by decide +kernel
theorem off5_eq (i : grid0.Coords) {t : ℕ} (h : t < 64) : k0_off5 i (w32 t) = chunkOff i (t + 1) :=
  (by decide +kernel : ∀ (i : grid0.Coords) (t : Fin 64), k0_off5 i (w32 t.val) = chunkOff i (t.val + 1)) i ⟨t, h⟩
theorem off8_eq (i : grid0.Coords) {t : ℕ} (h : t < 64) : k0_off8 i (w32 t) = chunkOff i t :=
  (by decide +kernel : ∀ (i : grid0.Coords) (t : Fin 64), k0_off8 i (w32 t.val) = chunkOff i t.val) i ⟨t, h⟩
theorem off29_eq (i : grid0.Coords) {t : ℕ} (h : t < 64) : k0_off29 i (w32 t) = chunkOff i t :=
  (by decide +kernel : ∀ (i : grid0.Coords) (t : Fin 64), k0_off29 i (w32 t.val) = chunkOff i t.val) i ⟨t, h⟩
theorem off32_eq (i : grid0.Coords) {t : ℕ} (h : t < 64) : k0_off32 i (w32 t) = chunkOff i (t + 63) :=
  (by decide +kernel : ∀ (i : grid0.Coords) (t : Fin 64), k0_off32 i (w32 t.val) = chunkOff i (t.val + 63)) i ⟨t, h⟩
theorem off35_eq : ∀ i : grid0.Coords, k0_off35 i (w32 0) = chunkOff i 63 := by decide +kernel

theorem chunk_inb : ∀ (i : grid0.Coords) (j : ℕ), ∀ a, chunkOff i j a + S1x64x256.size a ≤ S4x4096x2048.size a := by
  have h : ∀ (i : grid0.Coords) (j : Fin 64), ∀ a, chunkOff i j.val a + S1x64x256.size a ≤ S4x4096x2048.size a := by decide +kernel
  intro i j
  have h' := h i ⟨j % 64, Nat.mod_lt _ (by decide)⟩
  simpa only [chunkOff, Nat.mod_mod] using h'

theorem slot_inb : ∀ (n : ℕ), ∀ a, (![n % 2, 0, 0, 0] : Fin 4 → ℕ) a + S1x1x64x256.size a ≤ S2x1x64x256.size a := by
  have h : ∀ (n : Fin 2), ∀ a, (![n.val, 0, 0, 0] : Fin 4 → ℕ) a + S1x1x64x256.size a ≤ S2x1x64x256.size a := by decide +kernel
  exact fun n => h ⟨n % 2, Nat.mod_lt _ (by decide)⟩

theorem sem_inb : ∀ (n : ℕ), ∀ a, (![n % 2] : Fin 1 → ℕ) a + S1.size a ≤ S2.size a := by
  have h : ∀ (n : Fin 2), ∀ a, (![n.val] : Fin 1 → ℕ) a + S1.size a ≤ S2.size a := by decide +kernel
  exact fun n => h ⟨n % 2, Nat.mod_lt _ (by decide)⟩

/-! ## Conditions and checks -/

theorem cond1_iff : ∀ (i : grid0.Coords) (t : Fin k0_t1_loop.trips), k0_cond1 i t (w32 t.val) = 1#1 ↔ t.val < 63 := by decide +kernel
theorem cond2_iff : ∀ (i : grid0.Coords) (t : Fin k0_t1_loop.trips), k0_cond2 i t (w32 t.val) = 1#1 := by decide +kernel
theorem cond5_iff : ∀ (i : grid0.Coords) (t : Fin k0_t1_loop.trips), k0_cond5 i t (w32 t.val) = 1#1 := by decide +kernel
theorem cond7_iff : ∀ (i : grid0.Coords) (t : Fin k0_t1_loop.trips), k0_cond7 i t (w32 t.val) = 1#1 ↔ 0 < t.val := by decide +kernel

theorem chk1_ok (i : grid0.Coords) (t : Fin k0_t1_loop.trips) :
    k0_chk1 i t (w32 (min (t.val + 1) 64)) (w32 t.val) (w32 t.val) (w32 (t.val - 1)) (w32 t.val) := by
  have ht : t.val < 64 := t.isLt
  unfold k0_chk1
  rw [off4_eq (by omega), off6_eq (by omega), off7_eq (by omega), off9_eq (by omega), off28_eq (by omega), off30_eq (by omega), off31_eq (by omega),
    off33_eq (by omega), off5_eq i ht, off8_eq i ht, off29_eq i ht, off32_eq i ht]
  exact ⟨fun _ => slot_inb _, fun _ => chunk_inb _ _, fun _ => sem_inb _, fun _ => slot_inb _, fun _ => chunk_inb _ _, fun _ => sem_inb _,
    fun _ => slot_inb _, fun _ => chunk_inb _ _, fun _ => sem_inb _, fun _ => slot_inb _, fun _ => chunk_inb _ _, fun _ => sem_inb _⟩
theorem chk2_ok {n : ℕ} (h : n < 65) : k0_chk2 (w32 n) := by
  unfold k0_chk2; rw [off10_eq h]; exact slot_inb _
theorem chk3_ok {n : ℕ} (h : n < 65) : k0_chk3 (w32 n) := by
  unfold k0_chk3; rw [off12_eq h]; exact slot_inb _
theorem chk4_ok : k0_chk4 (w32 63) := by decide +kernel
theorem chk5_ok (i : grid0.Coords) : k0_chk5 i (w32 0) := by
  unfold k0_chk5; rw [off35_eq]; exact chunk_inb _ _

end Cert.KernelIdeal.Tiles
-- ==== Proof.BuffersIdeal.lean ====
/-
  THE TILE'S BUFFERS. The tile keeps its running sums in one buffer of 256 lanes, and passes chunks of the arrays through the two
  slots of an input buffer and the two slots of an output buffer, each slot with its own semaphore. This file names a slot, a
  chunk and a semaphore by a count, and states the kernel's loads, stores, copies and waits on them.
-/
module

public import proofs.«01_k».proof.Proof.RowIdeal
public import proofs.«01_k».proof.Proof.WordsIdeal

@[expose] public section

noncomputable section

namespace Cert.KernelIdeal.Tiles

open Cert.KernelIdeal Cert.KernelIdeal.Gen Cert.Slots

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "E32" => Elt F EltTy.f32

/-! ## Names by a count -/

/-- The slot a count falls in: the first at an even count, the second at an odd one. -/
def slotAt (b : Memref sig .scVector .vmem S2x1x64x256 .f32) (n : ℕ) : Memref sig .scVector .vmem S1x64x256 .f32 :=
  (b.slice (Rect.unit (s := S2x1x64x256) ![n % 2, 0, 0, 0] S1x1x64x256.size (slot_inb n)) (fun _ => rfl)).squeeze S1x64x256 squeezes_S1x1x64x256_S1x64x256

/-- The tile's chunk `j` of an array. -/
def chunkAt (i : grid0.Coords) (a : Memref sig .scVector .hbm S4x4096x2048 .f32) (j : ℕ) : Memref sig .scVector .hbm S1x64x256 .f32 :=
  a.slice (Rect.unit (s := S4x4096x2048) (chunkOff i j) S1x64x256.size (chunk_inb i j)) (fun _ => rfl)

/-- The semaphore of the slot a count falls in. -/
def semAt (s : DmaSems sig S2) (n : ℕ) : DmaSem sig :=
  ((s.slice (Rect.unit (s := S2) ![n % 2] S1.size (sem_inb n))).squeeze S_ squeezes_S1_S_).sem

theorem slot_at {b : Memref sig .scVector .vmem S2x1x64x256 .f32} {n : ℕ} {o : Fin 4 → ℕ} (h : o = ![n % 2, 0, 0, 0])
    {inb : ∀ a, o a + S1x1x64x256.size a ≤ S2x1x64x256.size a} :
    (b.slice (Rect.unit (s := S2x1x64x256) o S1x1x64x256.size inb) (fun _ => rfl)).squeeze S1x64x256 squeezes_S1x1x64x256_S1x64x256 = slotAt b n := by
  subst h; rfl

theorem chunk_at {i : grid0.Coords} {a : Memref sig .scVector .hbm S4x4096x2048 .f32} {j : ℕ} {o : Fin 3 → ℕ} (h : o = chunkOff i j)
    {inb : ∀ x, o x + S1x64x256.size x ≤ S4x4096x2048.size x} :
    a.slice (Rect.unit (s := S4x4096x2048) o S1x64x256.size inb) (fun _ => rfl) = chunkAt i a j := by
  subst h; rfl

theorem sem_at {s : DmaSems sig S2} {n : ℕ} {o : Fin 1 → ℕ} (h : o = ![n % 2]) {inb : ∀ a, o a + S1.size a ≤ S2.size a} :
    ((s.slice (Rect.unit (s := S2) o S1.size inb)).squeeze S_ squeezes_S1_S_).sem = semAt s n := by
  subst h; rfl

theorem slotAt_mod {b : Memref sig .scVector .vmem S2x1x64x256 .f32} {m n : ℕ} (h : m % 2 = n % 2) : slotAt b m = slotAt b n :=
  slot_at (by rw [h])

theorem semAt_mod {s : DmaSems sig S2} {m n : ℕ} (h : m % 2 = n % 2) : semAt s m = semAt s n :=
  sem_at (by rw [h])

theorem chunkAt_mod {i : grid0.Coords} {a : Memref sig .scVector .hbm S4x4096x2048 .f32} {m n : ℕ} (h : m % 64 = n % 64) : chunkAt i a m = chunkAt i a n :=
  chunk_at (by unfold chunkOff; rw [h])

/-! ## The buffer of sums -/

section Rules

variable (d : Dev nD) (i : grid0.Coords)
variable {α : Type} {Q : α → sProp (MT nD τ sig (HIx 1) (Elt F) ℕ UU ℕ)}

/-- The first `n` lanes at `C`, the rest as `Y`. -/
def putC (Y C : Fin 256 → E32) (n : ℕ) : Fin 256 → E32 := fun f => if f.val < n then C f else Y f

theorem putC_zero (Y C : Fin 256 → E32) : putC Y C 0 = Y := by funext f; simp [putC]
theorem putC_full (Y C : Fin 256 → E32) : putC Y C 256 = C := by funext f; exact if_pos f.isLt

theorem carry_emb {n : ℕ} (hn : n + 16 ≤ 256) {inb : ∀ a, (![n] : Fin 1 → ℕ) a + S16.size a ≤ S256.size a} (C : Fin 256 → E32) :
    (fun x => cols C ((Rect.unit (s := S256) ![n] S16.size inb).emb x)) = lane C n := by
  funext x
  have hx : (x 0).val < 16 := (x 0).isLt
  show C _ = C _
  congr 1
  apply Fin.ext
  rw [Rect.emb_apply]
  show n + 1 * (x 0).val = (n + (x 0).val) % 256
  omega

theorem wp_carry_load {m : Memref sig .scVector .vmem S256 .f32} {C : Fin 256 → E32} {n : ℕ} (hn : n + 16 ≤ 256)
    {inb : ∀ a, (![n] : Fin 1 → ℕ) a + S16.size a ≤ S256.size a} {h1 : m.view.LoadsAt (Rect.unit (s := S256) ![n] S16.size inb).toLoadRect}
    {k : Vec F S16 .f32 → Prog (TpuEff nD τ sig (Elt F) Λ₀ (.scVector (cV i) (jV i))) α} :
    (Reads (tile d i) m (cols C) : sProp 𝕄)
      ⊢ iprop((Reads (tile d i) m (cols C) -∗ wp frame (wpE (defs₀ (F := F)) 𝒱₀ (tile d i) none) Set.univ (k (lane C n)) Q)
        -∗ wp frame (wpE (defs₀ (F := F)) 𝒱₀ (tile d i) none) Set.univ (.op (.load m (Rect.unit (s := S256) ![n] S16.size inb).toLoadRect h1) k) Q) := by
  iintro H Hk
  iapply (wp_reads_load 𝒱₀ (tile d i) none (m := m)) $$ H
  iintro H
  rw [carry_emb hn]
  iapply Hk
  iexact H

/-- The buffer's lanes are read, then written at the sums. -/
theorem wp_carry_put {m : Memref sig .scVector .vmem S256 .f32} {Y C : Fin 256 → E32} {n : ℕ} (hn : n + 16 ≤ 256)
    {inb : ∀ a, (![n] : Fin 1 → ℕ) a + S16.size a ≤ S256.size a} {w : FVec F S16 .f32} (hw : w = lane C n)
    {h1 : m.view.LoadsAt (Rect.unit (s := S256) ![n] S16.size inb).toLoadRect} {h2 : (m.access (Rect.unit (s := S256) ![n] S16.size inb)).Stores Finset.univ} {h3}
    {k : PUnit → Prog (TpuEff nD τ sig (Elt F) Λ₀ (.scVector (cV i) (jV i))) α} :
    (Reads (tile d i) m (cols (putC Y C n)) : sProp 𝕄)
      ⊢ iprop((Reads (tile d i) m (cols (putC Y C (n + 16))) -∗ wp frame (wpE (defs₀ (F := F)) 𝒱₀ (tile d i) none) Set.univ (k ⟨⟩) Q)
        -∗ wp frame (wpE (defs₀ (F := F)) 𝒱₀ (tile d i) none) Set.univ
          (.op (.load m (Rect.unit (s := S256) ![n] S16.size inb).toLoadRect h1) fun _ => .op (.store m (Rect.unit (s := S256) ![n] S16.size inb) w Finset.univ h2 h3) k) Q) := by
  subst hw
  have e0 : ∀ (x : S16.Idx) , ((Rect.unit (s := S256) ![n] S16.size inb).emb x 0 : Fin 256).val = n + (x 0).val := by
    intro x
    rw [Rect.emb_apply]
    show n + 1 * (x 0).val = _
    omega
  iintro H Hk
  iapply (wp_carry_load d i (m := m) hn) $$ H
  iintro H
  iapply (wp_reads_store 𝒱₀ (tile d i) none (m := m) (cols (putC Y C (n + 16))) (by
    intro x
    have hx : (x 0).val < 16 := (x 0).isLt
    rw [← congrFun (carry_emb (inb := inb) hn C) x]
    show putC Y C (n + 16) _ = C _
    unfold putC
    rw [if_pos (by rw [e0 x]; omega)]) (by
    intro y hy
    show putC Y C (n + 16) _ = putC Y C n _
    unfold putC
    by_cases h : n ≤ (y 0 : Fin 256).val ∧ (y 0 : Fin 256).val < n + 16
    · exfalso
      refine hy (show S16.Idx from fun a => match a with | 0 => ⟨(y 0 : Fin 256).val - n, by show _ < 16; omega⟩) ?_
      funext a
      apply Fin.ext
      match a with
      | 0 =>
        refine (e0 _).trans ?_
        show n + ((y 0 : Fin 256).val - n) = (y 0 : Fin 256).val
        omega
    · have : (y 0 : Fin 256).val < n + 16 ↔ (y 0 : Fin 256).val < n := by omega
      simp only [this])) $$ H
  iintro H
  iapply Hk
  iexact H

/-! ## Copies -/

/-- A copy of the tile's from one memref to another on one of its semaphores. -/
def Moving {sp sp' : Space} (sem : DmaSem sig) (src : Memref sig .scVector sp S1x64x256 .f32) (dst : Memref sig .scVector sp' S1x64x256 .f32)
    (X : Fin 64 → Fin 256 → E32) : sProp 𝕄 :=
  Copying (tile d i) EC (default : HIx 1) sem src dst (grid X)

theorem numel_pos : 0 < S1x64x256.numel := by decide

theorem wp_start {sp sp' : Space} {sem sem' : DmaSem sig} {src src' : Memref sig .scVector sp S1x64x256 .f32} {dst dst' : Memref sig .scVector sp' S1x64x256 .f32}
    {X Y : Fin 64 → Fin 256 → E32} (h1 : src = src') (h2 : dst = dst') (h3 : sem = sem')
    {hsrc : src.view.WordExact} {hdst : dst.view.WordExact} {hsem : DmaTarget.Typed (nD := nD) sp (.dma sem) (.here (p := .scVector (cV i) (jV i)) dst)}
    {k : PUnit → Prog (TpuEff nD τ sig (Elt F) Λ₀ (.scVector (cV i) (jV i))) α} :
    (iprop(Reads (tile d i) src' (grid X) ∗ Reads (tile d i) dst' (grid Y) ∗ semVal (tile d i, .dma sem') 0) : sProp 𝕄)
      ⊢ iprop((Moving d i sem' src' dst' X -∗ wp frame (wpE (defs₀ (F := F)) 𝒱₀ (tile d i) none) Set.univ (k ⟨⟩) Q)
        -∗ wp frame (wpE (defs₀ (F := F)) 𝒱₀ (tile d i) none) Set.univ (.op (.enqueueDma src (.here dst) (.dma sem) hsrc hdst hsem) k) Q) := by
  subst h1 h2 h3
  exact wp_copy_start 𝒱₀ (tile d i) none EC default numel_pos

theorem wp_wait {sp sp' spw' : Space} {sw' : Shape} {ew' : EltTy} {sem sem' : DmaSem sig} {src : Memref sig .scVector sp S1x64x256 .f32}
    {dst dstw : Memref sig .scVector sp' S1x64x256 .f32} {srcw : Memref sig .scVector spw' sw' ew'} {hsrc : srcw.view.WordExact} {hdst : dstw.view.WordExact}
    {X : Fin 64 → Fin 256 → E32} (h2 : dstw = dst) (h3 : sem = sem')
    {O : CellTallies nD τ sig (HIx 1)} {W : Waits sig (HIx 1)}
    {k : PUnit → Prog (TpuEff nD τ sig (Elt F) Λ₀ (.scVector (cV i) (jV i))) α} :
    (iprop(Moving d i sem' src dst X ∗ owes (tile d i) O W ∗ Transfers.MayWaits (tile d i) default O) : sProp 𝕄)
      ⊢ iprop((iprop(Reads (tile d i) dst (grid X) ∗ Reads (tile d i) src (grid X) ∗ semVal (tile d i, .dma sem') 0
            ∗ owes (tile d i) O (insert (SemLoc.dma sem', default) W))
          -∗ wp frame (wpE (defs₀ (F := F)) 𝒱₀ (tile d i) none) Set.univ (k ⟨⟩) Q)
        -∗ wp frame (wpE (defs₀ (F := F)) 𝒱₀ (tile d i) none) Set.univ (.op (.waitDma2 sem srcw dstw hsrc hdst) k) Q) := by
  subst h2 h3
  exact wp_copy_wait 𝒱₀ (tile d i) none EC default rfl

end Rules

end Cert.KernelIdeal.Tiles
-- ==== Proof.StatesIdeal.lean ====
/-
  WHAT THE TILE HOLDS BETWEEN TRIPS. Before trip `t` chunk `t` of the input is being fetched into its slot, the other chunks of
  the input are at hand, and the other slot is free; from the second trip on chunk `t - 1` of the output is being written from
  its slot, the chunks before it are done, those after it still as they were. This file names these states and the steps
  between them; no program appears.
-/
module

public import proofs.«01_k».proof.Proof.BuffersIdeal

@[expose] public section

noncomputable section

namespace Cert.KernelIdeal.Tiles

open Cert.KernelIdeal Cert.KernelIdeal.Gen Cert.Slots

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "E32" => Elt F EltTy.f32

section States

variable (d : Dev nD) (i : grid0.Coords)
variable (arg2 arg3 : Memref sig .scVector .hbm S4x4096x2048 .f32) (bi bo : Memref sig .scVector .vmem S2x1x64x256 .f32) (si so : DmaSems sig S2)
variable (A : ℕ → Fin 256 → Elt F .f32)

/-- Chunk `j` of the input, and of the running sums. -/
abbrev inRows (j : ℕ) : Fin 64 → Fin 256 → E32 := fun r => A (64 * j + r.val)
abbrev outRows (j : ℕ) : Fin 64 → Fin 256 → E32 := fun r => run A (64 * j + r.val)

abbrev FreeSlot (b : Memref sig .scVector .vmem S2x1x64x256 .f32) (n : ℕ) : sProp 𝕄 := iprop(∃ Y, Reads (tile d i) (slotAt b n) (grid Y))
abbrev FreeSem (s : DmaSems sig S2) (n : ℕ) : sProp 𝕄 := semVal (tile d i, .dma (semAt s n)) 0

theorem freeSlot_mod {b : Memref sig .scVector .vmem S2x1x64x256 .f32} {m n : ℕ} (h : m % 2 = n % 2) : FreeSlot (F := F) d i b m ⊢ FreeSlot d i b n :=
  Entails.of_eq (by unfold FreeSlot; rw [slotAt_mod h])
theorem freeSem_mod {s : DmaSems sig S2} {m n : ℕ} (h : m % 2 = n % 2) : FreeSem (F := F) d i s m ⊢ FreeSem d i s n :=
  Entails.of_eq (by unfold FreeSem; rw [semAt_mod h])

/-! ## The input -/

abbrev InHeld (j : ℕ) : sProp 𝕄 := Reads (tile d i) (chunkAt i arg2 j) (grid (inRows A j))
abbrev Fetching (j : ℕ) : sProp 𝕄 := Moving d i (semAt si j) (chunkAt i arg2 j) (slotAt bi j) (inRows A j)

/-- Before trip `t`; after the last, everything is back. -/
def InB (t : ℕ) : sProp 𝕄 :=
  if t < 64 then iprop(Fetching d i arg2 bi si A t ∗ bigSep ((Finset.range 64).erase t) (InHeld d i arg2 A) ∗ FreeSlot d i bi (t + 1) ∗ FreeSem d i si (t + 1))
  else iprop(bigSep (Finset.range 64) (InHeld d i arg2 A) ∗ (FreeSlot d i bi 0 ∗ FreeSlot d i bi 1) ∗ (FreeSem d i si 0 ∗ FreeSem d i si 1))

/-- Within trip `t`, beside the chunk it computes on: the next chunk is being fetched, if there is one. -/
def InMid (t : ℕ) : sProp 𝕄 :=
  if t < 63 then iprop(Fetching d i arg2 bi si A (t + 1) ∗ bigSep (((Finset.range 64).erase t).erase (t + 1)) (InHeld d i arg2 A))
  else iprop(bigSep ((Finset.range 64).erase t) (InHeld d i arg2 A) ∗ FreeSlot d i bi (t + 1) ∗ FreeSem d i si (t + 1))

theorem inB_open {t : ℕ} (ht : t < 64) :
    InB d i arg2 bi si A t ⊢ iprop(Fetching d i arg2 bi si A t ∗ bigSep ((Finset.range 64).erase t) (InHeld d i arg2 A) ∗ FreeSlot d i bi (t + 1) ∗ FreeSem d i si (t + 1)) := by
  unfold InB; rw [if_pos ht]

theorem inB_close {t : ℕ} (ht : t < 64) :
    iprop(InMid d i arg2 bi si A t ∗ InHeld d i arg2 A t ∗ FreeSlot d i bi t ∗ FreeSem d i si t) ⊢ InB d i arg2 bi si A (t + 1) := by
  have hmem : t ∈ Finset.range 64 := Finset.mem_range.mpr ht
  unfold InMid InB
  by_cases h : t < 63
  · rw [if_pos h, if_pos (show t + 1 < 64 by omega)]
    have hm : t ∈ (Finset.range 64).erase (t + 1) := Finset.mem_erase.mpr ⟨by omega, hmem⟩
    rw [SparseCore.bigSep_erase' (s := (Finset.range 64).erase (t + 1)) hm, Finset.erase_right_comm]
    iintro ⟨⟨HF, HI⟩, Hc, Hs, Hv⟩
    isplitl [HF]; · iexact HF
    isplitl [Hc HI]; · isplitl [Hc] <;> iassumption
    isplitl [Hs]
    · iapply (freeSlot_mod d i (m := t) (n := t + 1 + 1) (by omega)); iexact Hs
    · iapply (freeSem_mod d i (m := t) (n := t + 1 + 1) (by omega)); iexact Hv
  · rw [if_neg h, if_neg (show ¬ t + 1 < 64 by omega), SparseCore.bigSep_erase' hmem]
    have h63 : t = 63 := by omega
    iintro ⟨⟨HI, Hs', Hv'⟩, Hc, Hs, Hv⟩
    isplitl [Hc HI]; · isplitl [Hc] <;> iassumption
    isplitl [Hs Hs']
    · isplitl [Hs']
      · iapply (freeSlot_mod d i (m := t + 1) (n := 0) (by omega)); iexact Hs'
      · iapply (freeSlot_mod d i (m := t) (n := 1) (by omega)); iexact Hs
    · isplitl [Hv']
      · iapply (freeSem_mod d i (m := t + 1) (n := 0) (by omega)); iexact Hv'
      · iapply (freeSem_mod d i (m := t) (n := 1) (by omega)); iexact Hv

/-! ## The output -/

abbrev Writing (j : ℕ) : sProp 𝕄 := Moving d i (semAt so j) (slotAt bo j) (chunkAt i arg3 j) (outRows A j)
abbrev OutDone (j : ℕ) : sProp 𝕄 := Reads (tile d i) (chunkAt i arg3 j) (grid (outRows A j))
abbrev OutAny (j : ℕ) : sProp 𝕄 := iprop(∃ Y, Reads (tile d i) (chunkAt i arg3 j) (grid Y))
/-- Chunk `j` when the chunks before `t` are done. -/
def OutAt (t j : ℕ) : sProp 𝕄 := if j < t then OutDone d i arg3 A j else OutAny (F := F) d i arg3 j

/-- Before trip `t`. -/
def OutB (t : ℕ) : sProp 𝕄 :=
  if 0 < t then iprop(Writing d i arg3 bo so A (t - 1) ∗ bigSep ((Finset.range 64).erase (t - 1)) (OutAt d i arg3 A t) ∗ FreeSlot d i bo t ∗ FreeSem d i so t)
  else iprop(bigSep (Finset.range 64) (OutAt d i arg3 A 0) ∗ (FreeSlot d i bo 0 ∗ FreeSlot d i bo 1) ∗ (FreeSem d i so 0 ∗ FreeSem d i so 1))

/-- Within trip `t`, beside the chunk it writes, before the wait for the last one. -/
def OutRest (t : ℕ) : sProp 𝕄 :=
  if 0 < t then iprop(Writing d i arg3 bo so A (t - 1) ∗ bigSep (((Finset.range 64).erase (t - 1)).erase t) (OutAt d i arg3 A t))
  else iprop(bigSep ((Finset.range 64).erase t) (OutAt d i arg3 A t) ∗ FreeSlot d i bo (t + 1) ∗ FreeSem d i so (t + 1))

/-- And after it. -/
def OutMid (t : ℕ) : sProp 𝕄 := iprop(bigSep ((Finset.range 64).erase t) (OutAt d i arg3 A (t + 1)) ∗ FreeSlot d i bo (t + 1) ∗ FreeSem d i so (t + 1))

theorem outAt_self (t : ℕ) : OutAt d i arg3 A t t ⊢ OutAny (F := F) d i arg3 t := by
  unfold OutAt; rw [if_neg (lt_irrefl t)]

theorem outB_open {t : ℕ} (ht : t < 64) :
    OutB d i arg3 bo so A t ⊢ iprop(OutRest d i arg3 bo so A t ∗ OutAny (F := F) d i arg3 t ∗ FreeSlot d i bo t ∗ FreeSem d i so t) := by
  have hmem : t ∈ Finset.range 64 := Finset.mem_range.mpr ht
  unfold OutB OutRest
  by_cases h : 0 < t
  · rw [if_pos h, if_pos h]
    have hm : t ∈ (Finset.range 64).erase (t - 1) := Finset.mem_erase.mpr ⟨by omega, hmem⟩
    rw [SparseCore.bigSep_erase' hm]
    iintro ⟨HW, ⟨Ht, HR⟩, Hs, Hv⟩
    isplitl [HW HR]; · isplitl [HW] <;> iassumption
    isplitl [Ht]; · iapply (outAt_self d i arg3 A t); iexact Ht
    isplitl [Hs] <;> iassumption
  · obtain rfl : t = 0 := by omega
    rw [if_neg h, if_neg h, SparseCore.bigSep_erase' hmem]
    iintro ⟨⟨Ht, HR⟩, ⟨Hs, Hs'⟩, ⟨Hv, Hv'⟩⟩
    isplitl [HR Hs' Hv']
    · isplitl [HR]; · iexact HR
      isplitl [Hs'] <;> iassumption
    isplitl [Ht]; · iapply (outAt_self d i arg3 A 0); iexact Ht
    isplitl [Hs] <;> iassumption

theorem outAt_succ {t : ℕ} {S : Finset ℕ} (h : t ∉ S) : bigSep S (OutAt d i arg3 A t) = bigSep S (OutAt d i arg3 A (t + 1)) := by
  refine bigSep_congr fun j hj => ?_
  have hne : j ≠ t := fun e => h (e ▸ hj)
  unfold OutAt
  by_cases hlt : j < t
  · rw [if_pos hlt, if_pos (by omega)]
  · rw [if_neg hlt, if_neg (by omega)]

/-- On the first trip there is no write to wait for. -/
theorem outRest_first {t : ℕ} (h : ¬ 0 < t) : OutRest d i arg3 bo so A t ⊢ OutMid d i arg3 bo so A t := by
  unfold OutRest OutMid
  rw [if_neg h, outAt_succ d i arg3 A (Finset.notMem_erase t _)]

theorem outRest_open {t : ℕ} (h : 0 < t) :
    OutRest d i arg3 bo so A t ⊢ iprop(Writing d i arg3 bo so A (t - 1) ∗ bigSep (((Finset.range 64).erase (t - 1)).erase t) (OutAt d i arg3 A t)) := by
  unfold OutRest; rw [if_pos h]

/-- The last chunk's write is done. -/
theorem outMid_close {t : ℕ} (h : 0 < t) (ht : t < 64) :
    iprop(bigSep (((Finset.range 64).erase (t - 1)).erase t) (OutAt d i arg3 A t) ∗ OutDone d i arg3 A (t - 1) ∗ FreeSlot d i bo (t - 1) ∗ FreeSem d i so (t - 1))
      ⊢ OutMid d i arg3 bo so A t := by
  have hm : t - 1 ∈ (Finset.range 64).erase t := Finset.mem_erase.mpr ⟨by omega, Finset.mem_range.mpr (by omega)⟩
  unfold OutMid
  rw [outAt_succ d i arg3 A (Finset.notMem_erase t _), Finset.erase_right_comm, SparseCore.bigSep_erase' hm]
  iintro ⟨HR, Hd, Hs, Hv⟩
  isplitl [HR Hd]
  · isplitl [Hd]
    · unfold OutAt; rw [if_pos (show t - 1 < t + 1 by omega)]; iexact Hd
    · iexact HR
  isplitl [Hs]
  · iapply (freeSlot_mod d i (m := t - 1) (n := t + 1) (by omega)); iexact Hs
  · iapply (freeSem_mod d i (m := t - 1) (n := t + 1) (by omega)); iexact Hv

theorem outB_close (t : ℕ) : iprop(Writing d i arg3 bo so A t ∗ OutMid d i arg3 bo so A t) ⊢ OutB d i arg3 bo so A (t + 1) := by
  unfold OutB OutMid
  rw [if_pos (Nat.succ_pos t), Nat.add_sub_cancel]

/-- After the last trip and the wait for its chunk, the output is done. -/
theorem outB_end :
    OutB d i arg3 bo so A 64 ⊢ iprop(Writing d i arg3 bo so A 63 ∗ bigSep ((Finset.range 64).erase 63) (OutDone d i arg3 A) ∗ FreeSlot d i bo 64 ∗ FreeSem d i so 64) := by
  unfold OutB
  rw [if_pos (by decide), bigSep_congr (Φ := OutAt d i arg3 A 64) (Ψ := OutDone d i arg3 A) fun j hj => by
    have := Finset.mem_range.mp (Finset.mem_of_mem_erase hj)
    unfold OutAt; rw [if_pos this]]

end States

end Cert.KernelIdeal.Tiles
-- ==== Proof.PartIdeal.lean ====
/-
  THE TILES' PARTS OF THE ARRAYS. Tile `i` works on one batch and one block of 256 columns; its chunk `j` is 64 rows of those.
  The chunks of all tiles are the whole array. This file names a tile's part of an array, the array of running sums that the
  tiles leave together, and the splitting of an array, held whole, into the tiles' chunks.
-/
module

public import proofs.«01_k».proof.Proof.StatesIdeal
public import Idealize.ShloMosaic.Lib.ValueIdxCore

@[expose] public section

noncomputable section

namespace Cert.KernelIdeal.Tiles

open Cert.KernelIdeal Cert.KernelIdeal.Gen Cert.Slots

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "E32" => Elt F EltTy.f32

open Idealize.ShloMosaic.ValueIdx

/-! ## The arrays' contents -/

/-- The index at a batch, a row and a column. -/
abbrev spot (b n f : ℕ) : S4x4096x2048.Idx := ix3 (Fin.ofNat 4 b) (Fin.ofNat 4096 n) (Fin.ofNat 2048 f)

/-- Batch `b`, column block `t` of an array, by row and lane. -/
def part (x : S4x4096x2048.Idx → Elt F .f32) (b t : ℕ) : ℕ → Fin 256 → Elt F .f32 := fun n f => x (spot b n (256 * t + f.val))

/-- The part of tile `i`. -/
abbrev tilePart (x : S4x4096x2048.Idx → Elt F .f32) (i : grid0.Coords) : ℕ → Fin 256 → Elt F .f32 := part x (num i / 8) (num i % 8)

/-- The array of running sums: row `n` holds, in each column, the sum of the rows before it. -/
def sums (x : S4x4096x2048.Idx → Elt F .f32) : S4x4096x2048.Idx → Elt F .f32 :=
  fun y => run (part x (y 0).val ((y 2).val / 256)) (y 1).val (Fin.ofNat 256 (y 2).val)

/-! ## The chunks' places -/

/-- The indices of tile `i`'s chunk `j`. -/
abbrev chunkSet (i : grid0.Coords) (j : ℕ) : Finset S4x4096x2048.Idx :=
  (Rect.unit (s := S4x4096x2048) (chunkOff i j) S1x64x256.size (chunk_inb i j)).set

theorem num_lt (i : grid0.Coords) : num i < 32 := by
  have h0 : (i 0).val < 2 := (i 0).isLt
  have h1 : (i 1).val < 16 := (i 1).isLt
  unfold num
  omega

theorem mem_chunkSet {i : grid0.Coords} {j : ℕ} {y : S4x4096x2048.Idx} :
    y ∈ chunkSet i j ↔ (y 0).val = num i / 8 ∧ (y 1).val / 64 = j % 64 ∧ (y 2).val / 256 = num i % 8 := by
  rw [Rect.mem_set_unit]
  constructor
  · intro h
    have h0 : num i / 8 ≤ (y 0).val ∧ (y 0).val < num i / 8 + 1 := h 0
    have h1 : 64 * (j % 64) ≤ (y 1).val ∧ (y 1).val < 64 * (j % 64) + 64 := h 1
    have h2 : 256 * (num i % 8) ≤ (y 2).val ∧ (y 2).val < 256 * (num i % 8) + 256 := h 2
    omega
  · rintro ⟨h0, h1, h2⟩ a
    match a with
    | 0 => show num i / 8 ≤ (y 0).val ∧ (y 0).val < num i / 8 + 1; omega
    | 1 => show 64 * (j % 64) ≤ (y 1).val ∧ (y 1).val < 64 * (j % 64) + 64; omega
    | 2 => show 256 * (num i % 8) ≤ (y 2).val ∧ (y 2).val < 256 * (num i % 8) + 256; omega

/-- The grid coordinates of subcore `s` of SparseCore `c`. -/
def coords (c : Fin 2) (s : Fin 16) : grid0.Coords :=
  fun | 0 => c | 1 => s | ⟨_ + 2, h⟩ => absurd h (Nat.not_lt.2 (Nat.le_add_left _ _))

theorem num_coords (c : Fin 2) (s : Fin 16) : num (coords c s) = s.val + 16 * c.val := rfl

/-- The indices of a tile, and of a SparseCore. -/
def tileSet (i : grid0.Coords) : Finset S4x4096x2048.Idx := (Finset.range 64).biUnion (chunkSet i)
def coreSet (c : Fin 2) : Finset S4x4096x2048.Idx := (Finset.univ : Finset (Fin 16)).biUnion fun s => tileSet (coords c s)

theorem mem_tileSet {i : grid0.Coords} {y : S4x4096x2048.Idx} : y ∈ tileSet i ↔ (y 0).val = num i / 8 ∧ (y 2).val / 256 = num i % 8 := by
  have h1 : (y 1).val < 4096 := (y 1).isLt
  unfold tileSet
  rw [Finset.mem_biUnion]
  constructor
  · rintro ⟨j, -, h⟩
    have := mem_chunkSet.mp h
    exact ⟨this.1, this.2.2⟩
  · rintro ⟨h0, h2⟩
    refine ⟨(y 1).val / 64, Finset.mem_range.mpr (by omega), mem_chunkSet.mpr ⟨h0, by omega, h2⟩⟩

theorem mem_coreSet {c : Fin 2} {y : S4x4096x2048.Idx} : y ∈ coreSet c ↔ (y 0).val / 2 = c.val := by
  have h0 : (y 0).val < 4 := (y 0).isLt
  have h2 : (y 2).val < 2048 := (y 2).isLt
  have hc := c.isLt
  unfold coreSet
  rw [Finset.mem_biUnion]
  constructor
  · rintro ⟨s, -, h⟩
    have h := mem_tileSet.mp h
    have hs := s.isLt
    rw [num_coords] at h
    omega
  · intro h
    refine ⟨⟨8 * ((y 0).val % 2) + (y 2).val / 256, by omega⟩, Finset.mem_univ _, mem_tileSet.mpr ?_⟩
    show (y 0).val = (8 * ((y 0).val % 2) + (y 2).val / 256 + 16 * c.val) / 8 ∧ (y 2).val / 256 = (8 * ((y 0).val % 2) + (y 2).val / 256 + 16 * c.val) % 8
    omega

theorem chunks_disjoint (i : grid0.Coords) : ∀ j ∈ Finset.range 64, ∀ k ∈ Finset.range 64, j ≠ k → Disjoint (chunkSet i j) (chunkSet i k) := by
  intro j hj k hk h
  have hj := Finset.mem_range.mp hj
  have hk := Finset.mem_range.mp hk
  refine Finset.disjoint_left.mpr fun y h1 h2 => ?_
  have h1 := mem_chunkSet.mp h1
  have h2 := mem_chunkSet.mp h2
  omega

theorem tiles_disjoint (c : Fin 2) : ∀ s ∈ (Finset.univ : Finset (Fin 16)), ∀ s' ∈ (Finset.univ : Finset (Fin 16)), s ≠ s' →
    Disjoint (tileSet (coords c s)) (tileSet (coords c s')) := by
  intro s _ s' _ h
  refine Finset.disjoint_left.mpr fun y h1 h2 => h (Fin.ext ?_)
  have h1 := mem_tileSet.mp h1
  have h2 := mem_tileSet.mp h2
  have hs := s.isLt
  have hs' := s'.isLt
  rw [num_coords] at h1 h2
  omega

theorem cores_disjoint : ∀ c ∈ (Finset.univ : Finset (Fin 2)), ∀ c' ∈ (Finset.univ : Finset (Fin 2)), c ≠ c' → Disjoint (coreSet c) (coreSet c') := by
  intro c _ c' _ h
  refine Finset.disjoint_left.mpr fun y h1 h2 => h (Fin.ext ?_)
  exact (mem_coreSet.mp h1).symm.trans (mem_coreSet.mp h2)

theorem cores_cover : (Finset.univ : Finset (Fin 2)).biUnion coreSet = Finset.univ := by
  refine Finset.eq_univ_iff_forall.mpr fun y => Finset.mem_biUnion.mpr ⟨⟨(y 0).val / 2, ?_⟩, Finset.mem_univ _, mem_coreSet.mpr rfl⟩
  have h0 : (y 0).val < 4 := (y 0).isLt
  omega

/-! ## An array held whole, split into the tiles' chunks -/

abbrev xLoc (d : Dev nD) : Loc nD τ sig := (SparseCore.T d).loc main_arg0
abbrev oLoc (d : Dev nD) : Loc nD τ sig := (SparseCore.T d).loc main_v0

/-- The chunks of one tile, at the contents `f`. -/
abbrev xTile (d : Dev nD) (i : grid0.Coords) (f : Buf (Elt F) (xLoc d)) : sProp 𝕄 := bigSep (Finset.range 64) fun j => xLoc d ↦[chunkSet i j]{fullShare} f
abbrev oTile (d : Dev nD) (i : grid0.Coords) (f : Buf (Elt F) (oLoc d)) : sProp 𝕄 := bigSep (Finset.range 64) fun j => oLoc d ↦[chunkSet i j]{fullShare} f

theorem xTiles (d : Dev nD) (f : Buf (Elt F) (xLoc d)) :
    (xLoc d ↦{fullShare} f : sProp 𝕄) = bigSep Finset.univ fun c : Fin 2 => bigSep Finset.univ fun s : Fin 16 => xTile d (coords c s) f := by
  refine Eq.trans ?_ (bigSep_congr fun c _ => (pointsTo_biUnion (ℓ := xLoc d) (q := fullShare) (f := f) Finset.univ (fun s => tileSet (coords c s)) (tiles_disjoint c)).trans
    (bigSep_congr fun s _ => pointsTo_biUnion (ℓ := xLoc d) (q := fullShare) (f := f) (Finset.range 64) (chunkSet (coords c s)) (chunks_disjoint (coords c s))))
  refine Eq.trans ?_ (pointsTo_biUnion (ℓ := xLoc d) (q := fullShare) (f := f) Finset.univ coreSet cores_disjoint)
  rw [cores_cover]

theorem oTiles (d : Dev nD) (f : Buf (Elt F) (oLoc d)) :
    (oLoc d ↦{fullShare} f : sProp 𝕄) = bigSep Finset.univ fun c : Fin 2 => bigSep Finset.univ fun s : Fin 16 => oTile d (coords c s) f := by
  refine Eq.trans ?_ (bigSep_congr fun c _ => (pointsTo_biUnion (ℓ := oLoc d) (q := fullShare) (f := f) Finset.univ (fun s => tileSet (coords c s)) (tiles_disjoint c)).trans
    (bigSep_congr fun s _ => pointsTo_biUnion (ℓ := oLoc d) (q := fullShare) (f := f) (Finset.range 64) (chunkSet (coords c s)) (chunks_disjoint (coords c s))))
  refine Eq.trans ?_ (pointsTo_biUnion (ℓ := oLoc d) (q := fullShare) (f := f) Finset.univ coreSet cores_disjoint)
  rw [cores_cover]

/-! ## A chunk as the kernel names it -/

/-- The arrays and the tile's buffers, as the program passes them. -/
abbrev xRef : Memref sig .scVector .hbm S4x4096x2048 .f32 := Memref.whole main_arg0_scv
abbrev oRef : Memref sig .scVector .hbm S4x4096x2048 .f32 := Memref.whole main_v0_scv

theorem xChunk_set (i : grid0.Coords) (j : ℕ) : (chunkAt i xRef j).view.set = chunkSet i j := by
  unfold chunkAt
  show ((View.whole (main_arg0_scv : Ref sig .scVector)).slice (Rect.unit (s := S4x4096x2048) (chunkOff i j) S1x64x256.size (chunk_inb i j))).set = _
  rw [View.set_slice]; exact Finset.map_refl

theorem oChunk_set (i : grid0.Coords) (j : ℕ) : (chunkAt i oRef j).view.set = chunkSet i j := by
  unfold chunkAt
  show ((View.whole (main_v0_scv : Ref sig .scVector)).slice (Rect.unit (s := S4x4096x2048) (chunkOff i j) S1x64x256.size (chunk_inb i j))).set = _
  rw [View.set_slice]; exact Finset.map_refl

/-- Where an index of a chunk lies in the array. -/
theorem chunk_spot (i : grid0.Coords) {j : ℕ} (hj : j < 64) (y : S1x64x256.Idx) :
    (Rect.unit (s := S4x4096x2048) (chunkOff i j) S1x64x256.size (chunk_inb i j)).emb y
      = spot (num i / 8) (64 * j + (y 1).val) (256 * (num i % 8) + (y 2).val) := by
  have hn := num_lt i
  have y0 : (y 0).val < 1 := (y 0).isLt
  have y1 : (y 1).val < 64 := (y 1).isLt
  have y2 : (y 2).val < 256 := (y 2).isLt
  funext a
  apply Fin.ext
  rw [Rect.emb_apply]
  match a with
  | 0 => show num i / 8 + 1 * (y 0).val = num i / 8 % 4; omega
  | 1 => show 64 * (j % 64) + 1 * (y 1).val = (64 * j + (y 1).val) % 4096; omega
  | 2 => show 256 * (num i % 8) + 1 * (y 2).val = (256 * (num i % 8) + (y 2).val) % 2048; omega

theorem xChunk_read (d : Dev nD) (i : grid0.Coords) {j : ℕ} (hj : j < 64) (f : Buf (Elt F) (xLoc d)) :
    grid (inRows (tilePart f i) j) = (chunkAt i xRef j).view.read (Elt F) f := by
  funext y
  show f (spot (num i / 8) (64 * j + (y 1).val) (256 * (num i % 8) + (y 2).val)) = f ((Rect.unit (s := S4x4096x2048) (chunkOff i j) S1x64x256.size (chunk_inb i j)).emb y)
  rw [chunk_spot i hj]

theorem oChunk_read (d : Dev nD) (i : grid0.Coords) {j : ℕ} (hj : j < 64) (f : Buf (Elt F) (xLoc d)) :
    grid (outRows (tilePart f i) j) = (chunkAt i oRef j).view.read (Elt F) (sums f : Buf (Elt F) (oLoc d)) := by
  have hn := num_lt i
  funext y
  have y1 : (y 1).val < 64 := (y 1).isLt
  have y2 : (y 2).val < 256 := (y 2).isLt
  show run (tilePart f i) (64 * j + (y 1).val) (y 2) = sums f ((Rect.unit (s := S4x4096x2048) (chunkOff i j) S1x64x256.size (chunk_inb i j)).emb y)
  rw [chunk_spot i hj]
  unfold sums
  show _ = run (part f (num i / 8 % 4) ((256 * (num i % 8) + (y 2).val) % 2048 / 256)) ((64 * j + (y 1).val) % 4096) (Fin.ofNat 256 ((256 * (num i % 8) + (y 2).val) % 2048))
  rw [show num i / 8 % 4 = num i / 8 by omega, show (256 * (num i % 8) + (y 2).val) % 2048 / 256 = num i % 8 by omega,
    show (64 * j + (y 1).val) % 4096 = 64 * j + (y 1).val by omega]
  congr 1
  apply Fin.ext
  show (y 2).val = (256 * (num i % 8) + (y 2).val) % 2048 % 256
  omega

/-- Contents of a chunk's shape, by row and lane. -/
theorem eq_grid (g : S1x64x256.Idx → Elt F .f32) : g = grid fun r f => g (ix3 (0 : Fin 1) r f) := by
  funext y
  show g y = g (ix3 (0 : Fin 1) (y 1) (y 2))
  congr 1
  funext a
  match a with
  | 0 => exact Subsingleton.elim (α := Fin 1) _ _
  | 1 => rfl
  | 2 => rfl

/-! ## A tile's chunks as the kernel holds them -/

section Chunks

variable (d : Dev nD) (i : grid0.Coords)

theorem xChunk_pts (j : ℕ) (f : Buf (Elt F) (xLoc d)) :
    ((chunkAt i xRef j).view.loc (tile d i) ↦[(chunkAt i xRef j).view.set]{fullShare} f : sProp 𝕄) = xLoc d ↦[chunkSet i j]{fullShare} f := by
  rw [xChunk_set]; rfl

theorem oChunk_pts (j : ℕ) (f : Buf (Elt F) (oLoc d)) :
    ((chunkAt i oRef j).view.loc (tile d i) ↦[(chunkAt i oRef j).view.set]{fullShare} f : sProp 𝕄) = oLoc d ↦[chunkSet i j]{fullShare} f := by
  rw [oChunk_set]; rfl

theorem xChunk_in {j : ℕ} (hj : j < 64) (f : Buf (Elt F) (xLoc d)) :
    (xLoc d ↦[chunkSet i j]{fullShare} f : sProp 𝕄) ⊢ InHeld d i xRef (tilePart f i) j := by
  rw [← xChunk_pts d i j f]
  unfold InHeld
  rw [xChunk_read d i hj f]
  exact reads_intro (thr := tile d i) (m := chunkAt i xRef j) (Val := Elt F) f

theorem xChunk_out {j : ℕ} (hj : j < 64) (f : Buf (Elt F) (xLoc d)) :
    InHeld d i xRef (tilePart f i) j ⊢ (xLoc d ↦[chunkSet i j]{fullShare} f : sProp 𝕄) := by
  rw [← xChunk_pts d i j f]
  exact reads_elim (thr := tile d i) (m := chunkAt i xRef j) (Val := Elt F) f (xChunk_read d i hj f)

theorem oChunk_in (j : ℕ) (g : Buf (Elt F) (oLoc d)) :
    (oLoc d ↦[chunkSet i j]{fullShare} g : sProp 𝕄) ⊢ OutAny (F := F) d i oRef j := by
  rw [← oChunk_pts d i j g]
  refine (reads_intro (thr := tile d i) (m := chunkAt i oRef j) (Val := Elt F) g).trans ?_
  rw [eq_grid (View.read (Elt F) (chunkAt i oRef j).view g)]
  iintro H
  iexists _
  iexact H

theorem oChunk_out {j : ℕ} (hj : j < 64) (f : Buf (Elt F) (xLoc d)) :
    OutDone d i oRef (tilePart f i) j ⊢ (oLoc d ↦[chunkSet i j]{fullShare} sums f : sProp 𝕄) := by
  rw [← oChunk_pts d i j (sums f)]
  exact reads_elim (thr := tile d i) (m := chunkAt i oRef j) (Val := Elt F) (sums f) (oChunk_read d i hj f)

theorem xChunks_in (f : Buf (Elt F) (xLoc d)) : xTile d i f ⊢ bigSep (Finset.range 64) (InHeld d i xRef (tilePart f i)) :=
  bigSep_mono fun _ hj => xChunk_in d i (Finset.mem_range.mp hj) f

theorem xChunks_out (f : Buf (Elt F) (xLoc d)) : bigSep (Finset.range 64) (InHeld d i xRef (tilePart f i)) ⊢ xTile d i f :=
  bigSep_mono fun _ hj => xChunk_out d i (Finset.mem_range.mp hj) f

theorem oChunks_in (g : Buf (Elt F) (oLoc d)) : oTile d i g ⊢ bigSep (Finset.range 64) (OutAny (F := F) d i oRef) :=
  bigSep_mono fun j _ => oChunk_in d i j g

theorem oChunks_out (f : Buf (Elt F) (xLoc d)) : bigSep (Finset.range 64) (OutDone d i oRef (tilePart f i)) ⊢ oTile d i (sums f) :=
  bigSep_mono fun _ hj => oChunk_out d i (Finset.mem_range.mp hj) f

end Chunks

end Cert.KernelIdeal.Tiles
-- ==== Proof.TripIdeal.lean ====
/-
  ONE TRIP. At trip `t` the tile starts fetching chunk `t + 1`, waits for chunk `t`, reads the sums out of their buffer, runs
  over the chunk's rows, puts the sums back, starts writing the chunk of sums, and waits for the last one's write.
-/
module

public import proofs.«01_k».proof.Proof.StatesIdeal

@[expose] public section

noncomputable section

namespace Cert.KernelIdeal.Tiles

open Cert.KernelIdeal Cert.KernelIdeal.Gen Cert.Slots

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "E32" => Elt F EltTy.f32

section Rules

variable (d : Dev nD) (i : grid0.Coords)
variable {α β : Type} {Q : α → sProp (MT nD τ sig (HIx 1) (Elt F) ℕ UU ℕ)}

theorem wp_seq {p : Prog (TpuEff nD τ sig (Elt F) Λ₀ (.scVector (cV i) (jV i))) β} {k : β → Prog (TpuEff nD τ sig (Elt F) Λ₀ (.scVector (cV i) (jV i))) α} :
    wp frame (wpE (defs₀ (F := F)) 𝒱₀ (tile d i) none) Set.univ p (fun a => wp frame (wpE (defs₀ (F := F)) 𝒱₀ (tile d i) none) Set.univ (k a) Q)
      ⊢ wp frame (wpE (defs₀ (F := F)) 𝒱₀ (tile d i) none) Set.univ (p >>= k) Q := Entails.of_eq (wp_bind _ _ _ _ _ _).symm

/-- A step taken on a condition, the rest of the program being the same either way. -/
theorem wp_when {c : Prop} [Decidable c] {R S : sProp (MT nD τ sig (HIx 1) (Elt F) ℕ UU ℕ)}
    {p : c → Prog (TpuEff nD τ sig (Elt F) Λ₀ (.scVector (cV i) (jV i))) α} {q : Prog (TpuEff nD τ sig (Elt F) Λ₀ (.scVector (cV i) (jV i))) α}
    (hp : ∀ h : c, R ⊢ iprop((S -∗ wp frame (wpE (defs₀ (F := F)) 𝒱₀ (tile d i) none) Set.univ q Q)
      -∗ wp frame (wpE (defs₀ (F := F)) 𝒱₀ (tile d i) none) Set.univ (p h) Q)) (hq : ¬ c → R ⊢ S) :
    R ⊢ iprop((S -∗ wp frame (wpE (defs₀ (F := F)) 𝒱₀ (tile d i) none) Set.univ q Q)
      -∗ wp frame (wpE (defs₀ (F := F)) 𝒱₀ (tile d i) none) Set.univ (dite c p fun _ => q) Q) := by
  by_cases h : c
  · rw [dif_pos h]; exact hp h
  · rw [dif_neg h]
    iintro HR Hk
    iapply Hk
    iapply (hq h)
    iexact HR

/-- A condition on which nothing is done. -/
theorem wp_idle {c : Prop} [Decidable c] {q : Prog (TpuEff nD τ sig (Elt F) Λ₀ (.scVector (cV i) (jV i))) α} :
    wp frame (wpE (defs₀ (F := F)) 𝒱₀ (tile d i) none) Set.univ q Q ⊢ wp frame (wpE (defs₀ (F := F)) 𝒱₀ (tile d i) none) Set.univ (ite c q q) Q := by
  rw [ite_self]

end Rules

section Trip

variable (d : Dev nD) (i : grid0.Coords)
variable (arg2 : Memref sig .scVector .hbm S4x4096x2048 .f32) (harg2 : arg2.IsWhole) (arg3 : Memref sig .scVector .hbm S4x4096x2048 .f32) (harg3 : arg3.IsWhole)
    (arg4 : Memref sig .scVector .vmem S256 .f32) (harg4 : arg4.IsWhole) (bi : Memref sig .scVector .vmem S2x1x64x256 .f32) (hbi : bi.IsWhole) (si : DmaSems sig S2)
    (bo : Memref sig .scVector .vmem S2x1x64x256 .f32) (hbo : bo.IsWhole) (so : DmaSems sig S2)
variable (A : ℕ → Fin 256 → Elt F .f32)

/-- The tile's number as the kernel computes it. -/
def word (i : grid0.Coords) : BitVec 32 :=
  Scalar.muli (Scalar.addi (Scalar.addi 0#32 (Scalar.muli (BitVec.ofNat 32 (i 1).val) 1#32)) (Scalar.muli (BitVec.ofNat 32 (i 0).val) 16#32)) 1#32

/-- What the tile owes, and that it may wait for its own copies; the waits it has made are its own copies' or its callers'. -/
def Owing (O : CellTallies nD τ sig (HIx 1)) (W : Waits sig (HIx 1)) : sProp 𝕄 :=
  iprop((∃ W', ⌜∀ p ∈ W', p ∈ W ∨ p.2 = none ∨ p.2 = some (0 : Fin 1)⌝ ∗ owes (tile d i) O W') ∗ Transfers.MayWaits (tile d i) (default : HIx 1) O)

theorem wp_wait_owing {sp sp' spw : Space} {sw' : Shape} {ew' : EltTy} {sem sem' : DmaSem sig} {src : Memref sig .scVector sp S1x64x256 .f32}
    {dst dstw : Memref sig .scVector sp' S1x64x256 .f32} {srcw : Memref sig .scVector spw sw' ew'} {hsrc : srcw.view.WordExact} {hdst : dstw.view.WordExact}
    {X : Fin 64 → Fin 256 → E32} (h2 : dstw = dst) (h3 : sem = sem')
    {O : CellTallies nD τ sig (HIx 1)} {W : Waits sig (HIx 1)} {α : Type} {Q : α → sProp (MT nD τ sig (HIx 1) (Elt F) ℕ UU ℕ)}
    {k : PUnit → Prog (TpuEff nD τ sig (Elt F) Λ₀ (.scVector (cV i) (jV i))) α} :
    (iprop(Moving d i sem' src dst X ∗ Owing d i O W) : sProp 𝕄)
      ⊢ iprop((iprop(Reads (tile d i) dst (grid X) ∗ Reads (tile d i) src (grid X) ∗ semVal (tile d i, .dma sem') 0 ∗ Owing d i O W)
          -∗ wp frame (wpE (defs₀ (F := F)) 𝒱₀ (tile d i) none) Set.univ (k ⟨⟩) Q)
        -∗ wp frame (wpE (defs₀ (F := F)) 𝒱₀ (tile d i) none) Set.univ (.op (.waitDma2 sem srcw dstw hsrc hdst) k) Q) := by
  unfold Owing
  iintro ⟨HM, ⟨%W', %hW', HO⟩, #Hmw⟩ Hk
  iapply (wp_wait d i h2 h3) $$ [HM HO]
  · isplitl [HM]; · iexact HM
    isplitl [HO]; · iexact HO
    iexact Hmw
  iintro ⟨Hd, Hs, Hv, HO⟩
  iapply Hk
  isplitl [Hd]; · iexact Hd
  isplitl [Hs]; · iexact Hs
  isplitl [Hv]; · iexact Hv
  isplitl [HO]
  · iexists insert (SemLoc.dma sem', default) W'
    isplitr
    · ipureintro
      intro p hp
      rcases Finset.mem_insert.mp hp with rfl | hp
      · exact Or.inr (Or.inl rfl)
      · exact hW' p hp
    iexact HO
  iexact Hmw

/-- The words the loop carries at trip `t`. -/
def words (t : ℕ) : BitVec 32 × BitVec 32 × BitVec 32 × BitVec 32 × BitVec 32 × BitVec 32 :=
  (w32 (min (t + 1) 64), w32 t, w32 t, w32 (t - 1), 0#32, w32 (t % 64))

/-- Before trip `t`: the sums after the first `t` chunks are in their buffer. -/
def TripInv (O : CellTallies nD τ sig (HIx 1)) (W : Waits sig (HIx 1)) (t : ℕ) : sProp 𝕄 :=
  iprop(Reads (tile d i) arg4 (cols (run A (64 * t))) ∗ InB d i arg2 bi si A t ∗ OutB d i arg3 bo so A t ∗ Owing d i O W)

theorem trip (O : CellTallies nD τ sig (HIx 1)) (W : Waits sig (HIx 1)) (t : Fin k0_t1_loop.trips) :
    TripInv d i arg2 arg3 arg4 bi si bo so A O W t.val
      ⊢ wp frame (wpE (defs₀ (F := F)) 𝒱₀ (tile d i) none) Set.univ
          (k0_t1_body i arg2 harg2 arg3 harg3 arg4 harg4 bi hbi si bo hbo so (word i) t
            (w32 (min (t.val + 1) 64), w32 t.val, w32 t.val, w32 (t.val - 1), 0#32, w32 t.val))
          fun acc => (iprop(⌜acc = words (t.val + 1)⌝ ∗ TripInv d i arg2 arg3 arg4 bi si bo so A O W (t.val + 1)) : sProp 𝕄) := by
  have ht : t.val < 64 := t.isLt
  unfold TripInv
  iintro ⟨Hc, Hin, Hout, Ho⟩
  ihave Hin := (inB_open d i arg2 bi si A ht) $$ Hin
  icases Hin with ⟨HF, HI, Hs, Hv⟩
  ihave Hout := (outB_open d i arg3 bo so A ht) $$ Hout
  icases Hout with ⟨Hrest, Ht, Hso, Hvo⟩
  unfold OutAny FreeSlot
  icases Ht with ⟨%Yt, Ht⟩
  icases Hso with ⟨%Ys, Hso⟩
  sl_unfold [k0_t1_body]
  iapply (wp_seq d i)
  sl_unfold [k0_part11]
  iapply (wp_assume 𝒱₀ (tile d i) none Set.univ (chk3_ok (n := t.val) (by omega)))
  iapply (wp_assume 𝒱₀ (tile d i) none Set.univ (chk2_ok (n := t.val) (by omega)))
  iapply (wp_assume 𝒱₀ (tile d i) none Set.univ (chk1_ok i t))
  iapply (le_wp_ret _ _)
  iapply (wp_seq d i)
  sl_unfold [k0_part12]
  iapply (le_wp_ret _ _)
  iapply (wp_seq d i)
  sl_unfold [k0_part13]
  iapply (wp_when d i (R := iprop(bigSep ((Finset.range 64).erase t.val) (InHeld d i arg2 A) ∗ FreeSlot d i bi (t.val + 1) ∗ FreeSem d i si (t.val + 1)))
    (S := InMid d i arg2 bi si A t.val) (by
      intro h
      have h' := (cond1_iff i t).mp h
      have hm : t.val + 1 ∈ (Finset.range 64).erase t.val := Finset.mem_erase.mpr ⟨by omega, Finset.mem_range.mpr (by omega)⟩
      rw [SparseCore.bigSep_erase' hm]
      unfold FreeSlot
      iintro ⟨⟨Hc, HI⟩, ⟨%Y, Hs⟩, Hv⟩ Hk
      sl_unfold [k0_part1]
      iapply (wp_start d i (src' := chunkAt i arg2 (t.val + 1)) (dst' := slotAt bi (t.val + 1)) (sem' := semAt si (t.val + 1))
        (X := inRows A (t.val + 1)) (Y := Y) (chunk_at (off5_eq i ht)) (slot_at (by rw [off4_eq (by omega), show min (t.val + 1) 64 = t.val + 1 by omega]))
        (sem_at (by rw [off6_eq (by omega), show min (t.val + 1) 64 = t.val + 1 by omega]))) $$ [Hc Hs Hv]
      · isplitl [Hc]; · iexact Hc
        isplitl [Hs]; · iexact Hs
        iexact Hv
      iintro HF
      iapply Hk
      unfold InMid
      rw [if_pos h']
      isplitl [HF] <;> iassumption) (by
      intro h
      have h' : ¬ t.val < 63 := fun h' => h ((cond1_iff i t).mpr h')
      unfold InMid
      rw [if_neg h'])) $$ [HI Hs Hv]
  · isplitl [HI]; · iexact HI
    isplitl [Hs] <;> iassumption
  iintro Hmid
  iapply (le_wp_ret _ _)
  iapply (wp_seq d i)
  sl_unfold [k0_part14]
  iapply (le_wp_ret _ _)
  iapply (wp_seq d i)
  sl_unfold [k0_part15]
  iapply (le_wp_ret _ _)
  iapply (wp_seq d i)
  sl_unfold [k0_part16]
  iapply (wp_when d i (R := iprop(Fetching d i arg2 bi si A t.val ∗ Owing d i O W))
    (S := iprop(Reads (tile d i) (slotAt bi t.val) (grid (inRows A t.val)) ∗ InHeld d i arg2 A t.val ∗ FreeSem d i si t.val ∗ Owing d i O W)) (by
      intro h
      iintro ⟨HF, Ho⟩ Hk
      sl_unfold [k0_part2]
      unfold Fetching
      iapply (wp_wait_owing d i (slot_at (off7_eq (by omega))) (sem_at (off9_eq (by omega)))) $$ [HF Ho]
      · isplitl [HF] <;> iassumption
      iexact Hk) (fun h => absurd (cond2_iff i t) h)) $$ [HF Ho]
  · isplitl [HF] <;> iassumption
  iintro ⟨Hsi, Hci, Hvi, Ho⟩
  iapply (le_wp_ret _ _)
  iapply (wp_seq d i)
  sl_unfold [k0_part17]
  iapply (wp_idle d i)
  iapply (wp_carry_load d i (m := arg4) (n := 0) (by decide)) $$ Hc
  iintro Hc
  iapply (wp_carry_load d i (m := arg4) (n := 16) (by decide)) $$ Hc
  iintro Hc
  iapply (wp_carry_load d i (m := arg4) (n := 32) (by decide)) $$ Hc
  iintro Hc
  iapply (wp_carry_load d i (m := arg4) (n := 48) (by decide)) $$ Hc
  iintro Hc
  iapply (wp_carry_load d i (m := arg4) (n := 64) (by decide)) $$ Hc
  iintro Hc
  iapply (wp_carry_load d i (m := arg4) (n := 80) (by decide)) $$ Hc
  iintro Hc
  iapply (wp_carry_load d i (m := arg4) (n := 96) (by decide)) $$ Hc
  iintro Hc
  iapply (wp_carry_load d i (m := arg4) (n := 112) (by decide)) $$ Hc
  iintro Hc
  iapply (wp_carry_load d i (m := arg4) (n := 128) (by decide)) $$ Hc
  iintro Hc
  iapply (wp_carry_load d i (m := arg4) (n := 144) (by decide)) $$ Hc
  iintro Hc
  iapply (wp_carry_load d i (m := arg4) (n := 160) (by decide)) $$ Hc
  iintro Hc
  iapply (wp_carry_load d i (m := arg4) (n := 176) (by decide)) $$ Hc
  iintro Hc
  iapply (wp_carry_load d i (m := arg4) (n := 192) (by decide)) $$ Hc
  iintro Hc
  iapply (wp_carry_load d i (m := arg4) (n := 208) (by decide)) $$ Hc
  iintro Hc
  iapply (wp_carry_load d i (m := arg4) (n := 224) (by decide)) $$ Hc
  iintro Hc
  iapply (wp_carry_load d i (m := arg4) (n := 240) (by decide)) $$ Hc
  iintro Hc
  iapply (le_wp_ret _ _)
  iapply (wp_seq d i)
  sl_unfold [k0_part18]
  iapply (chunk_loop d i arg2 harg2 arg3 harg3 arg4 harg4 bi hbi si bo hbo so (w32 t.val) (w32 t.val) _ _ _ _ _ _ _ _ _ _ _ _ _ _ _ _ _ _ _ _
    (slot_at (off10_eq (by omega))).symm (slot_at (off12_eq (by omega))).symm Ys A (64 * t.val) (by
      unfold lanes
      simp only [k0_pay30, k0_pay31, k0_pay32, k0_pay33, k0_pay34, k0_pay35, k0_pay36, k0_pay37, k0_pay38, k0_pay39, k0_pay40, k0_pay41, k0_pay42,
        k0_pay43, k0_pay44, k0_pay45, shapeCast_self])) $$ [Hso Hsi]
  · isplitl [Hso] <;> iassumption
  iintro ⟨Hso, Hsi⟩
  ihave Hc := (reads_congr (Y := cols (putC (run A (64 * t.val)) (run A (64 * t.val + 64)) 0)) (by rw [putC_zero])) $$ Hc
  iapply (wp_carry_put d i (m := arg4) (Y := run A (64 * t.val)) (C := run A (64 * t.val + 64)) (n := 0) (by decide) (by exact shapeCast_self _ _)) $$ Hc
  iintro Hc
  iapply (wp_carry_put d i (m := arg4) (Y := run A (64 * t.val)) (C := run A (64 * t.val + 64)) (n := 16) (by decide) (by exact shapeCast_self _ _)) $$ Hc
  iintro Hc
  iapply (wp_carry_put d i (m := arg4) (Y := run A (64 * t.val)) (C := run A (64 * t.val + 64)) (n := 32) (by decide) (by exact shapeCast_self _ _)) $$ Hc
  iintro Hc
  iapply (wp_carry_put d i (m := arg4) (Y := run A (64 * t.val)) (C := run A (64 * t.val + 64)) (n := 48) (by decide) (by exact shapeCast_self _ _)) $$ Hc
  iintro Hc
  iapply (wp_carry_put d i (m := arg4) (Y := run A (64 * t.val)) (C := run A (64 * t.val + 64)) (n := 64) (by decide) (by exact shapeCast_self _ _)) $$ Hc
  iintro Hc
  iapply (wp_carry_put d i (m := arg4) (Y := run A (64 * t.val)) (C := run A (64 * t.val + 64)) (n := 80) (by decide) (by exact shapeCast_self _ _)) $$ Hc
  iintro Hc
  iapply (wp_carry_put d i (m := arg4) (Y := run A (64 * t.val)) (C := run A (64 * t.val + 64)) (n := 96) (by decide) (by exact shapeCast_self _ _)) $$ Hc
  iintro Hc
  iapply (wp_carry_put d i (m := arg4) (Y := run A (64 * t.val)) (C := run A (64 * t.val + 64)) (n := 112) (by decide) (by exact shapeCast_self _ _)) $$ Hc
  iintro Hc
  iapply (wp_carry_put d i (m := arg4) (Y := run A (64 * t.val)) (C := run A (64 * t.val + 64)) (n := 128) (by decide) (by exact shapeCast_self _ _)) $$ Hc
  iintro Hc
  iapply (wp_carry_put d i (m := arg4) (Y := run A (64 * t.val)) (C := run A (64 * t.val + 64)) (n := 144) (by decide) (by exact shapeCast_self _ _)) $$ Hc
  iintro Hc
  iapply (wp_carry_put d i (m := arg4) (Y := run A (64 * t.val)) (C := run A (64 * t.val + 64)) (n := 160) (by decide) (by exact shapeCast_self _ _)) $$ Hc
  iintro Hc
  iapply (le_wp_ret _ _)
  iapply (wp_seq d i)
  sl_unfold [k0_part19]
  iapply (wp_carry_put d i (m := arg4) (Y := run A (64 * t.val)) (C := run A (64 * t.val + 64)) (n := 176) (by decide) (by exact shapeCast_self _ _)) $$ Hc
  iintro Hc
  iapply (wp_carry_put d i (m := arg4) (Y := run A (64 * t.val)) (C := run A (64 * t.val + 64)) (n := 192) (by decide) (by exact shapeCast_self _ _)) $$ Hc
  iintro Hc
  iapply (wp_carry_put d i (m := arg4) (Y := run A (64 * t.val)) (C := run A (64 * t.val + 64)) (n := 208) (by decide) (by exact shapeCast_self _ _)) $$ Hc
  iintro Hc
  iapply (wp_carry_put d i (m := arg4) (Y := run A (64 * t.val)) (C := run A (64 * t.val + 64)) (n := 224) (by decide) (by exact shapeCast_self _ _)) $$ Hc
  iintro Hc
  iapply (wp_carry_put d i (m := arg4) (Y := run A (64 * t.val)) (C := run A (64 * t.val + 64)) (n := 240) (by decide) (by exact shapeCast_self _ _)) $$ Hc
  iintro Hc
  ihave Hc := (reads_congr (Y := cols (run A (64 * (t.val + 1)))) (by rw [putC_full]; rfl)) $$ Hc
  iapply (wp_idle d i)
  iapply (wp_when d i (R := iprop(Reads (tile d i) (slotAt bo t.val) (grid (outRows A t.val)) ∗ (∃ Y, Reads (tile d i) (chunkAt i arg3 t.val) (grid Y)) ∗ FreeSem d i so t.val))
    (S := Writing d i arg3 bo so A t.val) (by
      intro h
      iintro ⟨Hs, ⟨%Y, Ht⟩, Hv⟩ Hk
      sl_unfold [k0_part9]
      iapply (wp_start d i (src' := slotAt bo t.val) (dst' := chunkAt i arg3 t.val) (sem' := semAt so t.val)
        (X := outRows A t.val) (Y := Y) (slot_at (off28_eq (by omega))) (chunk_at (off29_eq i ht)) (sem_at (off30_eq (by omega)))) $$ [Hs Ht Hv]
      · isplitl [Hs]; · iexact Hs
        isplitl [Ht]; · iexact Ht
        iexact Hv
      iexact Hk) (fun h => absurd (cond5_iff i t) h)) $$ [Hso Ht Hvo]
  · isplitl [Hso]; · iexact Hso
    isplitl [Ht]
    · iexists Yt; iexact Ht
    · iexact Hvo
  iintro HW
  iapply (le_wp_ret _ _)
  iapply (wp_idle d i)
  iapply (wp_when d i (R := iprop(OutRest d i arg3 bo so A t.val ∗ Owing d i O W)) (S := iprop(OutMid d i arg3 bo so A t.val ∗ Owing d i O W)) (by
      intro h
      have h' := (cond7_iff i t).mp h
      iintro ⟨Hr, Ho⟩ Hk
      ihave Hr := (outRest_open d i arg3 bo so A h') $$ Hr
      icases Hr with ⟨HW, HR⟩
      sl_unfold [k0_part10]
      unfold Writing
      iapply (wp_wait_owing d i ((chunk_at (off32_eq i ht)).trans (chunkAt_mod (n := t.val - 1) (by omega))) (sem_at (off33_eq (by omega)))) $$ [HW Ho]
      · isplitl [HW] <;> iassumption
      iintro ⟨Hd, Hs, Hv, Ho⟩
      iapply Hk
      isplitr [Ho]
      · iapply (outMid_close d i arg3 bo so A h' ht)
        isplitl [HR]; · iexact HR
        isplitl [Hd]; · iexact Hd
        isplitl [Hs]
        · unfold FreeSlot; iexists _; iexact Hs
        · iexact Hv
      iexact Ho) (by
      intro h
      have h' : ¬ 0 < t.val := fun h' => h ((cond7_iff i t).mpr h')
      iintro ⟨Hr, Ho⟩
      isplitl [Hr]
      · iapply (outRest_first d i arg3 bo so A h'); iexact Hr
      iexact Ho)) $$ [Hrest Ho]
  · isplitl [Hrest] <;> iassumption
  iintro ⟨Hm, Ho⟩
  iapply (le_wp_ret _ _)
  isplitr
  · ipureintro
    clear ht
    revert t
    revert i
    decide +kernel
  isplitl [Hc]; · iexact Hc
  isplitl [Hmid Hci Hsi Hvi]
  · iapply (inB_close d i arg2 bi si A ht)
    isplitl [Hmid]; · iexact Hmid
    isplitl [Hci]; · iexact Hci
    isplitl [Hsi]
    · unfold FreeSlot; iexists _; iexact Hsi
    · iexact Hvi
  isplitl [HW Hm]
  · iapply (outB_close d i arg3 bo so A t.val)
    isplitl [HW] <;> iassumption
  iexact Ho

end Trip

end Cert.KernelIdeal.Tiles
-- ==== Proof.TileIdeal.lean ====
/-
  THE WHOLE OF A TILE. The tile clears its sums, starts fetching its first chunk, makes the 64 trips, and waits for the last
  chunk's write. It ends with its part of the output at the running sums of its part of the input.
-/
module

public import proofs.«01_k».proof.Proof.TripIdeal

@[expose] public section

noncomputable section

namespace Cert.KernelIdeal.Tiles

open Cert.KernelIdeal Cert.KernelIdeal.Gen Cert.Slots

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "E32" => Elt F EltTy.f32

section Tile

variable (d : Dev nD) (i : grid0.Coords)
variable (arg2 : Memref sig .scVector .hbm S4x4096x2048 .f32) (harg2 : arg2.IsWhole) (arg3 : Memref sig .scVector .hbm S4x4096x2048 .f32) (harg3 : arg3.IsWhole)
    (arg4 : Memref sig .scVector .vmem S256 .f32) (harg4 : arg4.IsWhole) (bi : Memref sig .scVector .vmem S2x1x64x256 .f32) (hbi : bi.IsWhole) (si : DmaSems sig S2)
    (bo : Memref sig .scVector .vmem S2x1x64x256 .f32) (hbo : bo.IsWhole) (so : DmaSems sig S2)
variable (A : ℕ → Fin 256 → Elt F .f32)

/-- The tile's own buffers and semaphores at rest. -/
def AtRest : sProp 𝕄 :=
  iprop((∃ C, Reads (tile d i) arg4 (cols C)) ∗ (FreeSlot d i bi 0 ∗ FreeSlot d i bi 1) ∗ (FreeSlot d i bo 0 ∗ FreeSlot d i bo 1)
    ∗ (FreeSem d i si 0 ∗ FreeSem d i si 1) ∗ (FreeSem d i so 0 ∗ FreeSem d i so 1))

theorem trips_done (acc : BitVec 32 × BitVec 32 × BitVec 32 × BitVec 32 × BitVec 32 × BitVec 32) (h : acc = words k0_t1_loop.trips) :
    acc = (w32 64, w32 64, w32 64, w32 63, 0#32, w32 0) := h.trans (by decide +kernel)

theorem kernel_triple (O : CellTallies nD τ sig (HIx 1)) (W : Waits sig (HIx 1)) :
    (iprop(AtRest (F := F) d i arg4 bi si bo so ∗ bigSep (Finset.range 64) (InHeld d i arg2 A) ∗ bigSep (Finset.range 64) (OutAny (F := F) d i arg3) ∗ Owing d i O W) : sProp 𝕄)
      ⊢ wp frame (wpE (defs₀ (F := F)) 𝒱₀ (tile d i) none) Set.univ
          (cc0_sc_cumsum i arg2 harg2 arg3 harg3 arg4 harg4 bi hbi si bo hbo so)
          fun _ => (iprop(AtRest (F := F) d i arg4 bi si bo so ∗ bigSep (Finset.range 64) (InHeld d i arg2 A) ∗ bigSep (Finset.range 64) (OutDone d i arg3 A) ∗ Owing d i O W) : sProp 𝕄) := by
  unfold AtRest
  iintro ⟨⟨⟨%C₀, Hc⟩, ⟨Hbi0, Hbi1⟩, ⟨Hbo0, Hbo1⟩, ⟨Hsi0, Hsi1⟩, ⟨Hso0, Hso1⟩⟩, HI, HO, Ho⟩
  ihave Hc := (reads_congr (Y := cols (putC C₀ (run A 0) 0)) (by rw [putC_zero])) $$ Hc
  sl_unfold [cc0_sc_cumsum]
  iapply (wp_seq d i)
  sl_unfold [k0_part20]
  iapply (wp_carry_put d i (m := arg4) (Y := C₀) (C := run A 0) (n := 0) (by decide) (by exact shapeCast_self _ _)) $$ Hc
  iintro Hc
  iapply (wp_carry_put d i (m := arg4) (Y := C₀) (C := run A 0) (n := 16) (by decide) (by exact shapeCast_self _ _)) $$ Hc
  iintro Hc
  iapply (wp_carry_put d i (m := arg4) (Y := C₀) (C := run A 0) (n := 32) (by decide) (by exact shapeCast_self _ _)) $$ Hc
  iintro Hc
  iapply (wp_carry_put d i (m := arg4) (Y := C₀) (C := run A 0) (n := 48) (by decide) (by exact shapeCast_self _ _)) $$ Hc
  iintro Hc
  iapply (wp_carry_put d i (m := arg4) (Y := C₀) (C := run A 0) (n := 64) (by decide) (by exact shapeCast_self _ _)) $$ Hc
  iintro Hc
  iapply (wp_carry_put d i (m := arg4) (Y := C₀) (C := run A 0) (n := 80) (by decide) (by exact shapeCast_self _ _)) $$ Hc
  iintro Hc
  iapply (wp_carry_put d i (m := arg4) (Y := C₀) (C := run A 0) (n := 96) (by decide) (by exact shapeCast_self _ _)) $$ Hc
  iintro Hc
  iapply (wp_carry_put d i (m := arg4) (Y := C₀) (C := run A 0) (n := 112) (by decide) (by exact shapeCast_self _ _)) $$ Hc
  iintro Hc
  iapply (le_wp_ret _ _)
  iapply (wp_seq d i)
  sl_unfold [k0_part21]
  iapply (wp_carry_put d i (m := arg4) (Y := C₀) (C := run A 0) (n := 128) (by decide) (by exact shapeCast_self _ _)) $$ Hc
  iintro Hc
  iapply (wp_carry_put d i (m := arg4) (Y := C₀) (C := run A 0) (n := 144) (by decide) (by exact shapeCast_self _ _)) $$ Hc
  iintro Hc
  iapply (wp_carry_put d i (m := arg4) (Y := C₀) (C := run A 0) (n := 160) (by decide) (by exact shapeCast_self _ _)) $$ Hc
  iintro Hc
  iapply (wp_carry_put d i (m := arg4) (Y := C₀) (C := run A 0) (n := 176) (by decide) (by exact shapeCast_self _ _)) $$ Hc
  iintro Hc
  iapply (wp_carry_put d i (m := arg4) (Y := C₀) (C := run A 0) (n := 192) (by decide) (by exact shapeCast_self _ _)) $$ Hc
  iintro Hc
  iapply (wp_carry_put d i (m := arg4) (Y := C₀) (C := run A 0) (n := 208) (by decide) (by exact shapeCast_self _ _)) $$ Hc
  iintro Hc
  iapply (wp_carry_put d i (m := arg4) (Y := C₀) (C := run A 0) (n := 224) (by decide) (by exact shapeCast_self _ _)) $$ Hc
  iintro Hc
  iapply (wp_carry_put d i (m := arg4) (Y := C₀) (C := run A 0) (n := 240) (by decide) (by exact shapeCast_self _ _)) $$ Hc
  iintro Hc
  ihave Hc := (reads_congr (Y := cols (run A (64 * 0))) (by rw [putC_full])) $$ Hc
  iapply (le_wp_ret _ _)
  iapply (wp_seq d i)
  sl_unfold [k0_part22]
  iapply (le_wp_ret _ _)
  iapply (wp_seq d i)
  sl_unfold [k0_part23]
  iapply (le_wp_ret _ _)
  iapply (wp_seq d i)
  sl_unfold [k0_part24]
  ihave HI := (Entails.of_eq (SparseCore.bigSep_erase' (s := Finset.range 64) (i := 0) (by decide) (Φ := InHeld d i arg2 A))) $$ HI
  icases HI with ⟨Hc0, HI⟩
  unfold FreeSlot
  icases Hbi0 with ⟨%Y0, Hbi0⟩
  iapply (wp_start d i (src' := chunkAt i arg2 0) (dst' := slotAt bi 0) (sem' := semAt si 0)
    (X := inRows A 0) (Y := Y0) (chunk_at (off2_eq i)) (slot_at k0_off1_eq) (sem_at k0_off3_eq)) $$ [Hc0 Hbi0 Hsi0]
  · isplitl [Hc0]; · iexact Hc0
    isplitl [Hbi0] <;> iassumption
  iintro HF
  iapply (Scf.wp_for_bind frame (wpE (defs₀ (F := F)) 𝒱₀ (tile d i) none) Set.univ k0_t1_loop.lb k0_t1_loop.ub k0_t1_loop.st k0_t1_ok (words 0)
    (k0_t1_body i arg2 harg2 arg3 harg3 arg4 harg4 bi hbi si bo hbo so (word i))
    (fun r acc => (iprop(⌜acc = words r⌝ ∗ TripInv d i arg2 arg3 arg4 bi si bo so A O W r) : sProp 𝕄)) (by
      intro t acc
      iintro ⟨%hacc, HT⟩
      have ht : t.val < 64 := t.isLt
      have hm : t.val % 64 = t.val := Nat.mod_eq_of_lt ht
      subst hacc
      unfold words
      rw [hm]
      iapply (trip d i arg2 harg2 arg3 harg3 arg4 harg4 bi hbi si bo hbo so A O W t)
      iexact HT)) $$ [Hc HF HI HO Hbi1 Hbo0 Hbo1 Hsi1 Hso0 Hso1 Ho]
  · isplitr; · ipureintro; rfl
    unfold TripInv
    isplitl [Hc]; · iexact Hc
    isplitl [HF HI Hbi1 Hsi1]
    · unfold InB
      rw [if_pos (by decide)]
      isplitl [HF]; · iexact HF
      isplitl [HI]; · iexact HI
      isplitl [Hbi1] <;> iassumption
    isplitl [HO Hbo0 Hbo1 Hso0 Hso1]
    · unfold OutB
      rw [if_neg (by decide)]
      isplitl [HO]; · iexact HO
      isplitl [Hbo0 Hbo1]; · isplitl [Hbo0] <;> iassumption
      isplitl [Hso0] <;> iassumption
    iexact Ho
  iintro %acc ⟨%hacc, HT⟩
  have hacc' := trips_done acc hacc
  subst hacc'
  ihave HT := (show TripInv d i arg2 arg3 arg4 bi si bo so A O W k0_t1_loop.trips ⊢ TripInv d i arg2 arg3 arg4 bi si bo so A O W 64 from Entails.of_eq rfl) $$ HT
  unfold TripInv
  icases HT with ⟨Hc, HI, HO, Ho⟩
  ihave HO := (outB_end d i arg3 bo so A) $$ HO
  icases HO with ⟨HW, HO, Hbo, Hso⟩
  iapply (wp_assume 𝒱₀ (tile d i) none Set.univ (chk5_ok i))
  iapply (wp_assume 𝒱₀ (tile d i) none Set.univ chk4_ok)
  iapply (le_wp_ret _ _)
  iapply (wp_seq d i)
  sl_unfold [k0_part25]
  iapply (le_wp_ret _ _)
  iapply (wp_wait_owing d i (chunk_at (off35_eq i)) (sem_at (off36_eq (n := 63) (by decide)))) $$ [HW Ho]
  · isplitl [HW] <;> iassumption
  iintro ⟨Hd, Hs, Hv, Ho⟩
  iapply (le_wp_ret _ _)
  ihave HI := (show InB d i arg2 bi si A 64 ⊢ iprop(bigSep (Finset.range 64) (InHeld d i arg2 A) ∗ (FreeSlot d i bi 0 ∗ FreeSlot d i bi 1) ∗ (FreeSem d i si 0 ∗ FreeSem d i si 1)) from
    Entails.of_eq (by unfold InB; rw [if_neg (by decide)])) $$ HI
  icases HI with ⟨HI, Hbi, Hsi⟩
  isplitr [HI HO Hd Ho]
  · isplitl [Hc]; · iexists _; iexact Hc
    isplitl [Hbi]; · iexact Hbi
    isplitl [Hbo Hs]
    · isplitl [Hbo]
      · iapply (freeSlot_mod d i (m := 64) (n := 0) (by decide)); iexact Hbo
      · iapply (freeSlot_mod d i (m := 63) (n := 1) (by decide)); iexists _; iexact Hs
    isplitl [Hsi]; · iexact Hsi
    isplitl [Hso]
    · iapply (freeSem_mod d i (m := 64) (n := 0) (by decide)); iexact Hso
    · iapply (freeSem_mod d i (m := 63) (n := 1) (by decide)); iexact Hv
  isplitl [HI]; · iexact HI
  isplitr [Ho]
  · iapply (Entails.of_eq (SparseCore.bigSep_erase' (s := Finset.range 64) (i := 63) (by decide) (Φ := OutDone d i arg3 A)).symm)
    isplitl [Hd] <;> iassumption
  iexact Ho

end Tile

end Cert.KernelIdeal.Tiles
-- ==== Proof.RestIdeal.lean ====
/-
  A TILE AT REST. At the call a subcore owns its buffers and its semaphores, all counters at zero; these are the two slots of
  each chunk buffer, the buffer of sums, and one semaphore per slot. This file passes between the two readings.
-/
module

public import proofs.«01_k».proof.Proof.PartIdeal
public import proofs.«01_k».proof.Proof.TileIdeal

@[expose] public section

noncomputable section

namespace Cert.KernelIdeal.Tiles

open Cert.KernelIdeal Cert.KernelIdeal.Gen Cert.Slots

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "E32" => Elt F EltTy.f32

section Rest

variable (d : Dev nD) (i : grid0.Coords)

/-! ## The two slots of a buffer -/

section Slots

variable (b : Memref sig .scVector .vmem S2x1x64x256 .f32)

/-- The elements of the buffer under a slot. -/
abbrev slotSet (n : ℕ) : Finset S2x1x64x256.Idx := (Rect.unit (s := S2x1x64x256) ![n % 2, 0, 0, 0] S1x1x64x256.size (slot_inb n)).set

abbrev slotUnder (n : ℕ) : Finset b.view.ty.Idx := (slotSet n).map b.view.emb

theorem slot_set (n : ℕ) : (slotAt b n).view.set = slotUnder b n := by
  unfold slotAt
  show ((b.view.slice (Rect.unit (s := S2x1x64x256) ![n % 2, 0, 0, 0] S1x1x64x256.size (slot_inb n))).reshape S1x64x256 squeezes_S1x1x64x256_S1x64x256.numel_eq).set = _
  rw [View.set_reshape, View.set_slice]

theorem slot_pts (n : ℕ) (f : Buf (Elt F) (b.view.loc (tile d i))) :
    ((slotAt b n).view.loc (tile d i) ↦[(slotAt b n).view.set]{fullShare} f : sProp 𝕄) = b.view.loc (tile d i) ↦[slotUnder b n]{fullShare} f :=
  congrArg (fun S : Finset b.view.ty.Idx => (b.view.loc (tile d i) ↦[S]{fullShare} f : sProp 𝕄)) (slot_set b n)

theorem mem_slotSet {n : ℕ} {y : S2x1x64x256.Idx} : y ∈ slotSet n ↔ (y 0).val = n % 2 := by
  rw [Rect.mem_set_unit]
  constructor
  · intro h
    have h0 : n % 2 ≤ (y 0).val ∧ (y 0).val < n % 2 + 1 := h 0
    omega
  · intro h a
    match a with
    | 0 => show n % 2 ≤ (y 0).val ∧ (y 0).val < n % 2 + 1; omega
    | 1 => exact ⟨Nat.zero_le _, lt_of_lt_of_eq (y 1).isLt (Nat.zero_add _).symm⟩
    | 2 => exact ⟨Nat.zero_le _, lt_of_lt_of_eq (y 2).isLt (Nat.zero_add _).symm⟩
    | 3 => exact ⟨Nat.zero_le _, lt_of_lt_of_eq (y 3).isLt (Nat.zero_add _).symm⟩

theorem slots_disjoint : Disjoint (slotUnder b 0) (slotUnder b 1) := by
  rw [Finset.disjoint_map]
  refine Finset.disjoint_left.mpr fun y h0 h1 => ?_
  have h0 := mem_slotSet.mp h0
  have h1 := mem_slotSet.mp h1
  omega

theorem slotSets_cover : slotSet 0 ∪ slotSet 1 = Finset.univ := by
  refine Finset.ext fun y => ⟨fun _ => Finset.mem_univ y, fun _ => ?_⟩
  have h : (y 0).val < 2 := (y 0).isLt
  rw [Finset.mem_union, mem_slotSet, mem_slotSet]
  omega

theorem slots_cover : slotUnder b 0 ∪ slotUnder b 1 = b.view.set := by
  rw [← Finset.map_union, slotSets_cover]
  rfl

theorem slot_in (n : ℕ) (f : Buf (Elt F) (b.view.loc (tile d i))) :
    (b.view.loc (tile d i) ↦[slotUnder b n]{fullShare} f : sProp 𝕄) ⊢ FreeSlot d i b n := by
  rw [← slot_pts]
  refine (reads_intro (thr := tile d i) (m := slotAt b n) (Val := Elt F) f).trans ?_
  rw [eq_grid (View.read (Elt F) (slotAt b n).view f)]
  iintro H
  iexists _
  iexact H

theorem slot_out (n : ℕ) : FreeSlot (F := F) d i b n ⊢ iprop(∃ f, b.view.loc (tile d i) ↦[slotUnder b n]{fullShare} f) := by
  unfold FreeSlot Reads
  iintro ⟨%Y, %f, -, H⟩
  iexists f
  iapply (Entails.of_eq (slot_pts d i b n f))
  iexact H

theorem slots_split (f : Buf (Elt F) (b.view.loc (tile d i))) :
    (b.view.loc (tile d i) ↦[b.view.set]{fullShare} f : sProp 𝕄) ⊢ iprop(FreeSlot d i b 0 ∗ FreeSlot d i b 1) := by
  rw [← slots_cover b]
  refine (pointsTo_union (slots_disjoint b)).1.trans ?_
  iintro ⟨H0, H1⟩
  isplitl [H0]
  · iapply (slot_in d i b 0 f); iexact H0
  · iapply (slot_in d i b 1 f); iexact H1

theorem slots_join : iprop(FreeSlot (F := F) d i b 0 ∗ FreeSlot d i b 1) ⊢ iprop(∃ f, b.view.loc (tile d i) ↦[b.view.set]{fullShare} f) := by
  iintro ⟨H0, H1⟩
  ihave H0 := (slot_out d i b 0) $$ H0
  icases H0 with ⟨%f, H0⟩
  ihave H1 := (slot_out d i b 1) $$ H1
  icases H1 with ⟨%g, H1⟩
  ihave H := (pointsTo_join (Val := Elt F) (ℓ := b.view.loc (tile d i)) (q := fullShare) (f := f) (g := g) (slots_disjoint b)) $$ [H0 H1]
  · isplitl [H0] <;> iassumption
  iexists _
  iapply (Entails.of_eq (congrArg (fun S : Finset b.view.ty.Idx => (b.view.loc (tile d i) ↦[S]{fullShare} ((slotUnder b 1).piecewise g f) : sProp 𝕄)) (slots_cover b)))
  iexact H

end Slots

/-! ## The subcore's own semaphores and buffers -/

abbrev cRef : Memref sig .scVector .vmem S256 .f32 := Memref.whole cc0_scratch0
abbrev biRef : Memref sig .scVector .vmem S2x1x64x256 .f32 := Memref.whole cc0_scoped0
abbrev boRef : Memref sig .scVector .vmem S2x1x64x256 .f32 := Memref.whole cc0_scoped2

abbrev cell (k : DmaSem sig) : GSem nD τ sig := (tile d i, .dma k)

theorem sem_in0 : semAt cc0_scoped1 0 = (0 : Fin 4) := by decide +kernel
theorem sem_in1 : semAt cc0_scoped1 1 = (1 : Fin 4) := by decide +kernel
theorem sem_out0 : semAt cc0_scoped3 0 = (2 : Fin 4) := by decide +kernel
theorem sem_out1 : semAt cc0_scoped3 1 = (3 : Fin 4) := by decide +kernel

theorem cell_mem (k : DmaSem sig) (h : (SemLoc.dma k : SemLoc sig).isScoped .scVector = true) : cell d i k ∈ ownCells (tile d i) :=
  (mem_ownCells (g := cell d i k)).mpr ⟨rfl, h⟩

theorem cell_ne {k k' : DmaSem sig} (h : k ≠ k') : cell d i k ≠ cell d i k' := fun e => h (by injection e with _ e; injection e)

/-- The cells that are not the kernel's. -/
def otherCells : Finset (GSem nD τ sig) :=
  ((((ownCells (tile d i)).erase (cell d i (0 : Fin 4))).erase (cell d i (1 : Fin 4))).erase (cell d i (2 : Fin 4))).erase (cell d i (3 : Fin 4))

theorem ownSems0_tile :
    (ownSems0 (tile d i) : sProp 𝕄)
      = iprop(semVal (cell d i (0 : Fin 4)) 0 ∗ semVal (cell d i (1 : Fin 4)) 0 ∗ semVal (cell d i (2 : Fin 4)) 0 ∗ semVal (cell d i (3 : Fin 4)) 0
          ∗ bigSep (otherCells d i) fun g => semVal g 0) := by
  unfold SparseCore.Cfg.ownSems0 otherCells
  rw [SparseCore.bigSep_erase' (cell_mem d i (0 : Fin 4) (by decide)),
    SparseCore.bigSep_erase' (Finset.mem_erase.mpr ⟨cell_ne d i (by decide), cell_mem d i (1 : Fin 4) (by decide)⟩),
    SparseCore.bigSep_erase' (Finset.mem_erase.mpr ⟨cell_ne d i (by decide), Finset.mem_erase.mpr ⟨cell_ne d i (by decide), cell_mem d i (2 : Fin 4) (by decide)⟩⟩),
    SparseCore.bigSep_erase' (Finset.mem_erase.mpr ⟨cell_ne d i (by decide), Finset.mem_erase.mpr ⟨cell_ne d i (by decide),
      Finset.mem_erase.mpr ⟨cell_ne d i (by decide), cell_mem d i (3 : Fin 4) (by decide)⟩⟩⟩)]

abbrev devRefAt (b : Ref sig .scVector) : DevRef τ sig := (Proc.scVector (cV i) (jV i)).devRef b

theorem devRefAt_ne {b b' : Ref sig .scVector} (h : b ≠ b') : devRefAt i b ≠ devRefAt i b' := fun e => h (Proc.devRef_injective _ e)

/-- The buffers that are not the kernel's. -/
def otherRefs : Finset (DevRef τ sig) :=
  (((ownRefs (τ := τ) (.scVector (cV i) (jV i))).erase (devRefAt i cc0_scratch0)).erase (devRefAt i cc0_scoped0)).erase (devRefAt i cc0_scoped2)

theorem ownBufs_tile :
    (ownBufs (tile d i) : sProp 𝕄)
      = iprop((∃ f, (tile d i).loc cc0_scratch0 ↦{fullShare} f) ∗ (∃ f, (tile d i).loc cc0_scoped0 ↦{fullShare} f) ∗ (∃ f, (tile d i).loc cc0_scoped2 ↦{fullShare} f)
          ∗ bigSep (otherRefs i) fun b => iprop(∃ f, ((d, b) : Loc nD τ sig) ↦{fullShare} f)) := by
  unfold SparseCore.Cfg.ownBufs otherRefs
  refine (SparseCore.bigSep_erase' (SparseCore.Cfg.mem_ownRefs_of_owner (p := Proc.scVector (cV i) (jV i)) (b := devRefAt i cc0_scratch0) rfl)).trans ?_
  rw [SparseCore.bigSep_erase' (Finset.mem_erase.mpr ⟨devRefAt_ne i (by decide),
      SparseCore.Cfg.mem_ownRefs_of_owner (p := Proc.scVector (cV i) (jV i)) (b := devRefAt i cc0_scoped0) rfl⟩),
    SparseCore.bigSep_erase' (Finset.mem_erase.mpr ⟨devRefAt_ne i (by decide), Finset.mem_erase.mpr ⟨devRefAt_ne i (by decide),
      SparseCore.Cfg.mem_ownRefs_of_owner (p := Proc.scVector (cV i) (jV i)) (b := devRefAt i cc0_scoped2) rfl⟩⟩)]

/-! ## At rest -/

theorem eq_cols (g : S256.Idx → Elt F .f32) : g = cols fun f => g (fun | 0 => f) := by
  funext y
  show g y = g _
  congr 1
  funext a
  match a with
  | 0 => rfl

theorem carry_in (f : Buf (Elt F) ((tile d i).loc cc0_scratch0)) :
    ((cRef).view.loc (tile d i) ↦[(cRef).view.set]{fullShare} f : sProp 𝕄) ⊢ iprop(∃ C, Reads (tile d i) cRef (cols C)) := by
  refine (reads_intro (thr := tile d i) (m := cRef) (Val := Elt F) f).trans ?_
  rw [eq_cols (View.read (Elt F) (cRef).view f)]
  iintro H
  iexists _
  iexact H

abbrev Rest : sProp 𝕄 := AtRest (F := F) d i cRef biRef cc0_scoped1 boRef cc0_scoped3

/-- What the kernel does not name. -/
def Others : sProp 𝕄 := iprop((bigSep (otherCells d i) fun g => semVal g 0) ∗ bigSep (otherRefs i) fun b => iprop(∃ f, ((d, b) : Loc nD τ sig) ↦{fullShare} f))

theorem rest_in : iprop(ownBufs (tile d i) ∗ ownSems0 (tile d i)) ⊢ (iprop(Rest d i ∗ Others d i) : sProp 𝕄) := by
  rw [ownSems0_tile, ownBufs_tile]
  unfold Rest AtRest Others FreeSem
  rw [sem_in0, sem_in1, sem_out0, sem_out1]
  iintro ⟨⟨⟨%fc, Hc⟩, ⟨%fi, Hi⟩, ⟨%fo, Ho⟩, Hr⟩, ⟨H0, H1, H2, H3, Hs⟩⟩
  isplitr [Hr Hs]
  · isplitl [Hc]
    · iapply (carry_in d i fc)
      iapply (Entails.of_eq (show ((tile d i).loc cc0_scratch0 ↦{fullShare} fc : sProp 𝕄) = (cRef).view.loc (tile d i) ↦[(cRef).view.set]{fullShare} fc from by
        simp only [Memref.view_whole, View.set_whole]))
      iexact Hc
    isplitl [Hi]
    · iapply (slots_split d i biRef fi)
      iapply (Entails.of_eq (show ((tile d i).loc cc0_scoped0 ↦{fullShare} fi : sProp 𝕄) = (biRef).view.loc (tile d i) ↦[(biRef).view.set]{fullShare} fi from by
        simp only [Memref.view_whole, View.set_whole]))
      iexact Hi
    isplitl [Ho]
    · iapply (slots_split d i boRef fo)
      iapply (Entails.of_eq (show ((tile d i).loc cc0_scoped2 ↦{fullShare} fo : sProp 𝕄) = (boRef).view.loc (tile d i) ↦[(boRef).view.set]{fullShare} fo from by
        simp only [Memref.view_whole, View.set_whole]))
      iexact Ho
    isplitl [H0 H1]
    · isplitl [H0] <;> iassumption
    isplitl [H2] <;> iassumption
  isplitl [Hs] <;> iassumption

theorem rest_out : (iprop(Rest d i ∗ Others d i) : sProp 𝕄) ⊢ iprop(ownBufs (tile d i) ∗ ownSems0 (tile d i)) := by
  rw [ownSems0_tile, ownBufs_tile]
  unfold Rest AtRest Others FreeSem
  rw [sem_in0, sem_in1, sem_out0, sem_out1]
  iintro ⟨⟨⟨%C, Hc⟩, Hi, Ho, ⟨H0, H1⟩, ⟨H2, H3⟩⟩, ⟨Hs, Hr⟩⟩
  unfold Reads
  icases Hc with ⟨%fc, -, Hc⟩
  ihave Hi := (slots_join d i biRef) $$ Hi
  icases Hi with ⟨%fi, Hi⟩
  ihave Ho := (slots_join d i boRef) $$ Ho
  icases Ho with ⟨%fo, Ho⟩
  isplitl [Hc Hi Ho Hr]
  · isplitl [Hc]
    · iexists fc
      iapply (Entails.of_eq (show ((cRef).view.loc (tile d i) ↦[(cRef).view.set]{fullShare} fc : sProp 𝕄) = (tile d i).loc cc0_scratch0 ↦{fullShare} fc from by
        simp only [Memref.view_whole, View.set_whole]))
      iexact Hc
    isplitl [Hi]
    · iexists fi
      iapply (Entails.of_eq (show ((biRef).view.loc (tile d i) ↦[(biRef).view.set]{fullShare} fi : sProp 𝕄) = (tile d i).loc cc0_scoped0 ↦{fullShare} fi from by
        simp only [Memref.view_whole, View.set_whole]))
      iexact Hi
    isplitl [Ho]
    · iexists fo
      iapply (Entails.of_eq (show ((boRef).view.loc (tile d i) ↦[(boRef).view.set]{fullShare} fo : sProp 𝕄) = (tile d i).loc cc0_scoped2 ↦{fullShare} fo from by
        simp only [Memref.view_whole, View.set_whole]))
      iexact Ho
    iexact Hr
  isplitl [H0]; · iexact H0
  isplitl [H1]; · iexact H1
  isplitl [H2]; · iexact H2
  isplitl [H3]; · iexact H3
  iexact Hs

end Rest

end Cert.KernelIdeal.Tiles
-- ==== Proof.LaunchIdeal.lean ====
/-
  THE LAUNCH. The TensorCore starts the call on the two SparseCores and waits for it. Each SparseCore receives the chunks of its
  sixteen tiles, each tile its own, the result array's at whatever they hold; they come back with the result array's chunks at
  the running sums. So every run of the program ends with the argument as it was and the result at the running sums.
-/
module

public import proofs.«01_k».proof.Proof.RestIdeal

@[expose] public section

noncomputable section

namespace Cert.KernelIdeal.Tiles

open Cert.KernelIdeal Cert.KernelIdeal.Gen Cert.Slots

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "E32" => Elt F EltTy.f32

variable (m : (ℓ : Loc nD τ sig) → Buf (Elt F) ℓ) (ρ : Dev nD → PrngReg)

/-! ## What the call carries -/

/-- A tile's chunks before its task and after it. -/
@[irreducible] def Before (d : Dev nD) (i : grid0.Coords) : sProp 𝕄 := iprop(xTile d i (m (xLoc d)) ∗ oTile d i (m (oLoc d)))
@[irreducible] def After (d : Dev nD) (i : grid0.Coords) : sProp 𝕄 := iprop(xTile d i (m (xLoc d)) ∗ oTile d i (sums (m (xLoc d))))

/-- Those of all the tiles of a SparseCore. -/
@[irreducible] def CoreBefore (d : Dev nD) (c : Fin 2) : sProp 𝕄 := bigSep Finset.univ fun s : Fin 16 => Before m d (coords c s)
@[irreducible] def CoreAfter (d : Dev nD) (c : Fin 2) : sProp 𝕄 := bigSep Finset.univ fun s : Fin 16 => After m d (coords c s)

instance before_storable (d : Dev nD) (i : grid0.Coords) : BI.Storable (upEmb : UEmb _ 𝕄) (Before m d i) := by unfold Before; infer_instance
instance after_storable (d : Dev nD) (i : grid0.Coords) : BI.Storable (upEmb : UEmb _ 𝕄) (After m d i) := by unfold After; infer_instance
instance coreBefore_storable (d : Dev nD) (c : Fin 2) : BI.Storable (upEmb : UEmb _ 𝕄) (CoreBefore m d c) := by unfold CoreBefore; infer_instance
instance coreAfter_storable (d : Dev nD) (c : Fin 2) : BI.Storable (upEmb : UEmb _ 𝕄) (CoreAfter m d c) := by unfold CoreAfter; infer_instance

/-- The grid coordinates of a subcore numbered by the launch. -/
abbrev place (c s : ℕ) : grid0.Coords := coords (Fin.ofNat 2 c) (Fin.ofNat 16 s)

def P : (K (F := F)).Pay (nD := nD) (Val := Elt F) (Name := ℕ) (U := UU) where
  st := fun _ d c => CoreBefore m d (Fin.ofNat 2 c.val)
  dn := fun _ d c => CoreAfter m d (Fin.ofNat 2 c.val)
  go := fun _ d c s => Before m d (place c.val s.val)
  td := fun _ d c s => After m d (place c.val s.val)
  x := fun _ _ => iprop(emp)

instance P_storable : (P (F := F) m).IsStorable where
  st _ d c := coreBefore_storable m d _
  dn _ d c := coreAfter_storable m d _
  go _ d c s := before_storable m d _
  td _ d c s := after_storable m d _

/-! ## The task -/

theorem tile_body (hF : (K (F := F)).Facts) (d : Dev nD) (i : grid0.Coords) (O : CellTallies nD τ sig (HIx 1)) (W : Waits sig (HIx 1)) (hO : ∀ g, O g none = 0) :
    iprop(levAts (K (F := F)).L (K (F := F)).lev ∗ emp ∗ Before m d i
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc0_sc_cumsum i xRef (Memref.isWhole_whole _) oRef (Memref.isWhole_whole _) cRef (Memref.isWhole_whole _)
            biRef (Memref.isWhole_whole _) cc0_scoped1 boRef (Memref.isWhole_whole _) cc0_scoped3)
          fun _ => iprop(After m d i
            ∗ scopedBufs (V d (cV i) (jV i)) ∗ scopedSems0 (V d (cV i) (jV i))
            ∗ ∃ W', ⌜∀ p ∈ W', p ∈ W ∨ p.2 = none ∨ p.2 = some (0 : Fin 1)⌝ ∗ owes (V d (cV i) (jV i)) O W') := by
  rw [(K (F := F)).scopedBufs_V hF d (cV i) (jV i), SparseCore.Cfg.scopedSems0_V (Val := Elt F) d (cV i) (jV i)]
  unfold Before After
  iintro ⟨#Hlv, -, ⟨Hx, Ho⟩, Hb, Hs, HO⟩
  ihave Hmw := (show levAts (K (F := F)).L (K (F := F)).lev ⊢ Transfers.MayWaits (V d (cV i) (jV i)) (default : HIx 1) O from
    (K (F := F)).mayWaits_none (thr := V d (cV i) (jV i)) hO) $$ Hlv
  ihave HR := (rest_in (F := F) d i) $$ [Hb Hs]
  · isplitl [Hb] <;> iassumption
  icases HR with ⟨HR, Hoth⟩
  ihave Hx := (xChunks_in d i (m (xLoc d))) $$ Hx
  ihave Ho := (oChunks_in d i (m (oLoc d))) $$ Ho
  ihave Hwp := (kernel_triple d i xRef (Memref.isWhole_whole _) oRef (Memref.isWhole_whole _) cRef (Memref.isWhole_whole _)
      biRef (Memref.isWhole_whole _) cc0_scoped1 boRef (Memref.isWhole_whole _) cc0_scoped3 (tilePart (m (xLoc d)) i) O W) $$ [HR Hx Ho HO Hmw]
  · isplitl [HR]; · iexact HR
    isplitl [Hx]; · iexact Hx
    isplitl [Ho]; · iexact Ho
    unfold Owing
    isplitl [HO]
    · iexists W
      isplitr; · ipureintro; exact fun p hp => .inl hp
      iexact HO
    iexact Hmw
  iapply (wp_wand _ _ _) $$ Hwp
  iintro %r ⟨HR, Hx, Ho, Hw⟩
  unfold Owing
  icases Hw with ⟨Hw, -⟩
  isplitl [Hx Ho]
  · isplitl [Hx]
    · iapply (xChunks_out d i (m (xLoc d))); iexact Hx
    · iapply (oChunks_out d i (m (xLoc d))); iexact Ho
  ihave Hown := (rest_out (F := F) d i) $$ [HR Hoth]
  · isplitl [HR] <;> iassumption
  icases Hown with ⟨Hb, Hs⟩
  isplitl [Hb]; · iexact Hb
  isplitl [Hs]; · iexact Hs
  iexact Hw

theorem defs₀_vector (c : Fin τ.nSC) (s : Fin τ.nSub) :
    defs₀ (F := F) (.scVector c s) 0 ()
      = SparseCore.onTile hcore0 hsub0 (fun c s => cc0_sc_cumsum (coords c s) xRef (Memref.isWhole_whole _) oRef (Memref.isWhole_whole _) cRef (Memref.isWhole_whole _)
          biRef (Memref.isWhole_whole _) cc0_scoped1 boRef (Memref.isWhole_whole _) cc0_scoped3) ⟨⟩ c s := rfl

theorem tileObl (hF : (K (F := F)).Facts) : (K (F := F)).TileObl (D (F := F)) 𝒱 (P m) v₀ 0 := by
  intro d c s O W hO _ _
  simp only [show (P m).ox = fun _ _ => 0 from rfl, add_zero]
  have hci : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hp : place c.val s.val = coords ⟨c.val, hci.1⟩ ⟨s.val, hci.2⟩ := by
    unfold place
    congr 1
    · exact Fin.ext (Nat.mod_eq_of_lt hci.1)
    · exact Fin.ext (Nat.mod_eq_of_lt hci.2)
  show iprop(_ ∗ _ ∗ Before m d (place c.val s.val) ∗ _) ⊢ wp _ _ _ _ (fun _ => iprop(After m d (place c.val s.val) ∗ _))
  rw [hp]
  exact tile_body m hF d (coords ⟨_, hci.1⟩ ⟨_, hci.2⟩) O W hO

/-- Numbers of SparseCores and subcores, as the launch counts them and as numbers. -/
theorem over_cores (Φ : ℕ → sProp (MT nD τ sig (HIx 1) (Elt F) ℕ UU ℕ)) :
    (bigSep Finset.univ fun c : Fin ((K (F := F)).nCore 0) => Φ c.val) = bigSep Finset.univ fun c : Fin 2 => Φ c.val := rfl
theorem over_subs (Φ : ℕ → sProp (MT nD τ sig (HIx 1) (Elt F) ℕ UU ℕ)) :
    (bigSep Finset.univ fun s : Fin ((K (F := F)).nSub 0) => Φ s.val) = bigSep Finset.univ fun s : Fin 16 => Φ s.val := rfl

theorem coreBefore_tiles (d : Dev nD) (c : ℕ) : CoreBefore m d (Fin.ofNat 2 c) = bigSep Finset.univ fun s : Fin ((K (F := F)).nSub 0) => Before m d (place c s.val) := by
  rw [over_subs fun n => Before m d (place c n)]
  unfold CoreBefore
  exact bigSep_congr fun s _ => congrArg (Before m d) (congrArg (coords (Fin.ofNat 2 c)) (Fin.ext (Nat.mod_eq_of_lt s.isLt).symm))

theorem coreAfter_tiles (d : Dev nD) (c : ℕ) : CoreAfter m d (Fin.ofNat 2 c) = bigSep Finset.univ fun s : Fin ((K (F := F)).nSub 0) => After m d (place c s.val) := by
  rw [over_subs fun n => After m d (place c n)]
  unfold CoreAfter
  exact bigSep_congr fun s _ => congrArg (After m d) (congrArg (coords (Fin.ofNat 2 c)) (Fin.ext (Nat.mod_eq_of_lt s.isLt).symm))

theorem split_join (A B C E : sProp (MT nD τ sig (HIx 1) (Elt F) ℕ UU ℕ)) (hA : A = B) (hC : C = E) : A ⊢ |={Set.univ}=> iprop(B ∗ (E -∗ C)) := by
  subst hA hC
  iintro H; imodintro
  isplitl [H]; · iexact H
  iintro H; iexact H

theorem vecSplit : (K (F := F)).VecSplit' (P m) 0 := fun d c =>
  split_join _ _ _ _ (coreBefore_tiles m d c.val) (coreAfter_tiles m d c.val)

/-! ## The launch element -/

def u₀ : UU := (initOf (K (F := F)).hsCells (K (F := F)).hsToks, 1)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The TensorCore's program -/

theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- Both arrays whole, the result at `g`, are all the tiles' chunks. -/
theorem arrays_tiles (d : Dev nD) (g : Buf (Elt F) (oLoc d)) :
    (iprop((xLoc d ↦{fullShare} m (xLoc d)) ∗ oLoc d ↦{fullShare} g) : sProp 𝕄)
      = bigSep Finset.univ fun c : Fin 2 => bigSep Finset.univ fun s : Fin 16 => iprop(xTile d (coords c s) (m (xLoc d)) ∗ oTile d (coords c s) g) := by
  rw [xTiles, oTiles, ← bigSep_sep']
  exact bigSep_congr fun c _ => (bigSep_sep' _ _ _).symm

theorem ofNat_self (c : Fin 2) : Fin.ofNat 2 c.val = c := Fin.ext (Nat.mod_eq_of_lt c.isLt)

theorem start_eq (d : Dev nD) :
    (bigSep Finset.univ fun c : Fin ((K (F := F)).nCore 0) => (P m).st 0 d c) = iprop((xLoc d ↦{fullShare} m (xLoc d)) ∗ oLoc d ↦{fullShare} m (oLoc d)) := by
  rw [arrays_tiles]
  refine (over_cores fun n => CoreBefore m d (Fin.ofNat 2 n)).trans (bigSep_congr fun c _ => ?_)
  rw [ofNat_self]
  unfold CoreBefore Before
  rfl

theorem done_eq (d : Dev nD) :
    (bigSep Finset.univ fun c : Fin ((K (F := F)).nCore 0) => (P m).dn 0 d c)
      = iprop((xLoc d ↦{fullShare} m (xLoc d)) ∗ oLoc d ↦{fullShare} (sums (m (xLoc d)) : Buf (Elt F) (oLoc d))) := by
  rw [arrays_tiles]
  refine (over_cores fun n => CoreAfter m d (Fin.ofNat 2 n)).trans (bigSep_congr fun c _ => ?_)
  rw [ofNat_self]
  unfold CoreAfter After
  rfl

/-- What the program leaves: the argument as it was, the result at the running sums. -/
abbrev FIN (d : Dev nD) : sProp 𝕄 := iprop((xLoc d ↦{fullShare} m (xLoc d)) ∗ oLoc d ↦{fullShare} (sums (m (xLoc d)) : Buf (Elt F) (oLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hxo, Hts, -⟩, -⟩
  iapply ((K (F := F)).wp_run (D (F := F)) 𝒱 (EH := EH) (P := P m) κ d 0) $$ [Hst Hxo Hb Hts]
  isplitr; · iexact Hctx
  isplitl [Hst]; · iexact Hst
  isplitl [Hxo]
  · iapply (Entails.of_eq (start_eq m d).symm)
    iexact Hxo
  iintro ⟨Hst, Hdn⟩
  ihave Hdn' := (Entails.of_eq (done_eq m d)) $$ Hdn
  imodintro
  isplitl [Hst]; · iexact Hst
  isplitl [Hdn']; · iexact Hdn'
  isplitl [Hb] <;> iassumption

def fq (d : Dev nD) (s' : Phys nD τ sig (Elt F)) : Prop := s'.mem.mem (xLoc d) = m (xLoc d) ∧ s'.mem.mem (oLoc d) = sums (m (xLoc d))

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := (sums (m (xLoc d)) : Buf (Elt F) (oLoc d)))) $$ [HSI Ho]
  · isplitl [HSI] <;> iassumption
  icases H with %ho
  ipureintro; exact ⟨funext fun i => hx i (Finset.mem_univ i), funext fun i => ho i (Finset.mem_univ i)⟩

/-! ## The program's run -/

def QC : PUnit × MemSt nD τ sig (Elt F) → Prop :=
  fun r => (∀ d : Dev nD, r.2.mem (xLoc d) = m (xLoc d) ∧ r.2.mem (oLoc d) = sums (m (xLoc d))) ∧ r.2.sem = fun _ => 0

theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Tiles
-- ==== Proof.Prefix.lean ====
/-
  PREFIX SUMS over the extended reals: the array whose entry (b, s, f) is the sum of the argument's entries (b, j, f) over
  j < s. Both programs are shown to end at it.
-/
module

public import Idealize.ShloMosaic.PureOps.Ideal
public import Idealize.ShloMosaic.Lib.ValueIdxCore
public import proofs.«01_k».proof.Proof.Gen.KernelIdeal

@[expose] public section

noncomputable section

namespace Cert.Scan

open Idealize.ShloMosaic Idealize.ShloMosaic.ValueIdx
open Cert.KernelIdeal (S4x4096x2048)

/-- The constant that both programs start their sums from is the extended real zero. -/
theorem fill_zero : (Scalar.ofBits .f32 0x00000000#32 : Ideal .f32) = (0 : EReal) := by
  show Ideal.ofBits .f32 0x00000000#32 = 0
  simp [Ideal.ofBits, Ideal.ieee]

/-- The inclusive prefix sum less the last entry is the exclusive one, where that entry is a real number. -/
theorem sum_succ_sub (x : ℕ → EReal) (r : ℕ) (ht : x r ≠ ⊤) (hb : x r ≠ ⊥) :
    ∑ j ∈ Finset.range (r + 1), x j - x r = ∑ j ∈ Finset.range r, x j := by
  rw [Finset.sum_range_succ]
  lift x r to ℝ using ⟨ht, hb⟩ with y
  exact EReal.add_sub_cancel_right

/-- The array's entry at three coordinates, zero outside it. -/
def entry (X : FVec Ideal S4x4096x2048 .f32) (b f s : ℕ) : EReal :=
  if h : b < 4 ∧ s < 4096 ∧ f < 2048 then X (ix3 (⟨b, h.1⟩ : Fin 4) (⟨s, h.2.1⟩ : Fin 4096) (⟨f, h.2.2⟩ : Fin 2048)) else 0

/-- The exclusive prefix sum of the array along its middle axis. -/
def prefixSum (X : FVec Ideal S4x4096x2048 .f32) : FVec Ideal S4x4096x2048 .f32 :=
  fun i => ∑ s ∈ Finset.range (i 1).val, entry X (i 0).val (i 2).val s

end Cert.Scan

end
-- ==== Proof.ValueIdeal.lean ====
/-
  THE TILES' SUMS ARE PREFIX SUMS. At the extended reals the sums that a tile carries along its rows are the sums of the rows
  before, and so the array that the tiles leave together is the exclusive prefix sum of the argument.
-/
module

public import proofs.«01_k».proof.Proof.LaunchIdeal
public import proofs.«01_k».proof.Proof.Prefix

@[expose] public section

noncomputable section

namespace Cert.KernelIdeal.Tiles

open Cert.KernelIdeal Cert.KernelIdeal.Gen Cert.Scan
open Idealize.ShloMosaic Idealize.ShloMosaic.ValueIdx

/-- Carrying the sums along the rows adds the rows up. -/
theorem run_apply (A : ℕ → Fin 256 → Elt Ideal .f32) (f : Fin 256) :
    ∀ n, (run A n f : EReal) = ∑ k ∈ Finset.range n, (A k f : EReal)
  | 0 => by rw [Finset.sum_range_zero]; exact fill_zero
  | n + 1 => by
    rw [Finset.sum_range_succ, ← run_apply A f n]
    rfl

/-- A row of a tile's part is a row of the array, in the tile's columns. -/
theorem part_entry (x : FVec Ideal S4x4096x2048 .f32) (b : Fin 4) (c : Fin 2048) (k : ℕ) (hk : k < 4096) :
    (part (F := Ideal) x b.val (c.val / 256) k (Fin.ofNat 256 c.val) : EReal) = entry x b.val c.val k := by
  have hb := b.isLt
  have hc := c.isLt
  unfold part entry
  rw [dif_pos ⟨hb, hk, hc⟩]
  refine congrArg x (funext fun a => Fin.ext ?_)
  match a with
  | 0 => show b.val % 4 = b.val; omega
  | 1 => show k % 4096 = k; omega
  | 2 => show (256 * (c.val / 256) + c.val % 256) % 2048 = c.val; omega

/-- The array of running sums is the exclusive prefix sum. -/
theorem sums_eq (x : FVec Ideal S4x4096x2048 .f32) : sums (F := Ideal) x = prefixSum x := by
  funext y
  have h1 : (y 1).val < 4096 := (y 1).isLt
  unfold sums prefixSum
  rw [run_apply]
  exact Finset.sum_congr rfl fun k hk => part_entry x (y 0) (y 2) k (by have := Finset.mem_range.mp hk; omega)

end Cert.KernelIdeal.Tiles

end
-- ==== Proof.Reference.lean ====
/-
  THE REFERENCE'S RESULT, at the ideal instance: its windowed sum reads, at every index, the sum of the argument's entries
  up to and including that index along the middle axis (`cumsum_apply`); taking the entry itself off again leaves the
  entries before it, where the argument is finite (`reference_eq`). The finiteness is the precondition's, read back element
  by element (`finite_of_pre`).
-/
module

public import proofs.«01_k».proof.Proof.Prefix
public import proofs.«01_k».proof.Proof.Gen.ReferenceIdeal
public import Idealize.ShloMosaic.Lib.StableHlo.Run
public import proofs.«01_k».proof.Proof.Gen.Pre_finite
public import Idealize.ShloMosaic.Lib.ReduceAll
public import Idealize.ShloMosaic.Lib.ValueIdx

@[expose] public section

set_option maxRecDepth 16384

noncomputable section

namespace Cert.Scan

open Idealize.ShloMosaic Idealize.ShloMosaic.ValueIdx
open Cert.KernelIdeal (S4x4096x2048)

/-! ## The windowed sum -/

/-- A left fold of additions is the start plus the sum of the terms. -/
theorem foldl_add {ι : Type} (f : ι → EReal) : ∀ (L : List ι) (v : EReal), L.foldl (fun r n => r + f n) v = v + (L.map f).sum
  | [], v => (add_zero v).symm
  | n :: L, v => by rw [List.foldl_cons, foldl_add f L, List.map_cons, List.sum_cons, add_assoc]

/-- A float windowed sum at an index: the start plus, over the window's positions, the entry under the position or, off the
    operand, the start again. -/
theorem windowed_apply {s t u : Shape} (window strides lo hi : Fin s.rank → ℕ) (X : FVec Ideal s .f32) (init : FVec Ideal u .f32)
    (h : s.ReduceWindows window strides lo hi t) (hu : 0 < u.numel) (j : t.Idx) :
    (Host.reduceWindowAdd window strides lo hi X init h hu : FVec Ideal t .f32) j
      = (init (Shape.Idx.first hu) : EReal) + ∑ k : (⟨s.rank, window⟩ : Shape).Idx,
          if hin : ∀ a, lo a ≤ (j (a.cast h.1.symm)).val * strides a + (k a).val
              ∧ (j (a.cast h.1.symm)).val * strides a + (k a).val - lo a < s.size a
            then (X (fun a => ⟨(j (a.cast h.1.symm)).val * strides a + (k a).val - lo a, (hin a).2⟩) : EReal)
            else init (Shape.Idx.first hu) := by
  refine (foldl_add _ _ _).trans (congrArg (fun e : EReal => (init (Shape.Idx.first hu) : EReal) + e) ?_)
  rw [← List.ofFn_eq_map, List.sum_ofFn]
  refine (Finset.sum_congr rfl fun n _ => ?_).trans (Equiv.sum_comp (⟨s.rank, window⟩ : Shape).rowMajor.symm (fun k =>
    if hin : ∀ a, lo a ≤ (j (a.cast h.1.symm)).val * strides a + (k a).val
        ∧ (j (a.cast h.1.symm)).val * strides a + (k a).val - lo a < s.size a
      then (X (fun a => ⟨(j (a.cast h.1.symm)).val * strides a + (k a).val - lo a, (hin a).2⟩) : EReal)
      else init (Shape.Idx.first hu)))
  exact dite_congr rfl (fun _ => rfl) (fun _ => rfl)

/-- The window's positions are the 4096 positions of its middle axis. -/
def windowEquiv : (⟨3, ![1, 4096, 1]⟩ : Shape).Idx ≃ Fin 4096 where
  toFun i := i 1
  invFun k := ix3 (0 : Fin 1) k (0 : Fin 1)
  left_inv i := by
    funext a
    match a with
    | ⟨0, _⟩ => exact Subsingleton.elim (α := Fin 1) _ _
    | ⟨1, _⟩ => rfl
    | ⟨2, _⟩ => exact Subsingleton.elim (α := Fin 1) _ _
  right_inv _ := rfl

/-- A window of `M + 1` entries padded low by `M` holds, at position `s`, the entries up to and including `s`. -/
theorem sum_window (z : ℕ → EReal) (M s : ℕ) (hs : s ≤ M) :
    ∑ k : Fin (M + 1), (if M ≤ s + k.val then z (s + k.val - M) else 0) = ∑ j ∈ Finset.range (s + 1), z j := by
  rw [Fin.sum_univ_eq_sum_range (fun k => if M ≤ s + k then z (s + k - M) else 0) (M + 1)]
  rw [show M + 1 = (M - s) + (s + 1) by omega, Finset.sum_range_add]
  rw [Finset.sum_eq_zero fun j hj => if_neg (by have := Finset.mem_range.mp hj; omega), zero_add]
  refine Finset.sum_congr rfl fun j _ => ?_
  rw [if_pos (by omega)]
  congr 1
  omega

/-- THE REFERENCE'S CUMULATIVE SUM at an index: the entries up to and including it. -/
theorem cumsum_apply (X : FVec Ideal S4x4096x2048 .f32) (init : FVec Ideal (⟨0, ![]⟩ : Shape) .f32) (hinit : ∀ i, init i = (0 : EReal))
    (h : S4x4096x2048.ReduceWindows (![1, 4096, 1] : Fin 3 → ℕ) ![1, 1, 1] ![0, 4095, 0] ![0, 0, 0] S4x4096x2048)
    (hu : 0 < (⟨0, ![]⟩ : Shape).numel) (b : Fin 4) (s : Fin 4096) (f : Fin 2048) :
    (Host.reduceWindowAdd ![1, 4096, 1] ![1, 1, 1] ![0, 4095, 0] ![0, 0, 0] X init h hu : FVec Ideal S4x4096x2048 .f32) (ix3 b s f)
      = ∑ j ∈ Finset.range (s.val + 1), entry X b.val f.val j := by
  have hb := b.isLt
  have hs := s.isLt
  have hf := f.isLt
  rw [windowed_apply, hinit, zero_add]
  -- the term at one position of the window
  have hterm : ∀ k : (⟨3, ![1, 4096, 1]⟩ : Shape).Idx,
      (if hin : ∀ a : Fin 3, (![0, 4095, 0] : Fin 3 → ℕ) a ≤ (ix3 b s f (a.cast h.1.symm)).val * (![1, 1, 1] : Fin 3 → ℕ) a + (k a).val
          ∧ (ix3 b s f (a.cast h.1.symm)).val * (![1, 1, 1] : Fin 3 → ℕ) a + (k a).val - (![0, 4095, 0] : Fin 3 → ℕ) a < S4x4096x2048.size a
        then X (fun a => ⟨(ix3 b s f (a.cast h.1.symm)).val * (![1, 1, 1] : Fin 3 → ℕ) a + (k a).val - (![0, 4095, 0] : Fin 3 → ℕ) a, (hin a).2⟩)
        else (0 : EReal))
        = if 4095 ≤ s.val + (windowEquiv k).val then entry X b.val f.val (s.val + (windowEquiv k).val - 4095) else 0 := by
    intro k
    have k0 : (k 0).val = 0 := by have := (k 0).isLt; simp at this; omega
    have k1 : (k 1).val < 4096 := (k 1).isLt
    have k2 : (k 2).val = 0 := by have := (k 2).isLt; simp at this; omega
    show _ = if 4095 ≤ s.val + (k 1).val then entry X b.val f.val (s.val + (k 1).val - 4095) else 0
    by_cases hk : 4095 ≤ s.val + (k 1).val
    · have hin : ∀ a : Fin 3, (![0, 4095, 0] : Fin 3 → ℕ) a ≤ (ix3 b s f (a.cast h.1.symm)).val * (![1, 1, 1] : Fin 3 → ℕ) a + (k a).val
          ∧ (ix3 b s f (a.cast h.1.symm)).val * (![1, 1, 1] : Fin 3 → ℕ) a + (k a).val - (![0, 4095, 0] : Fin 3 → ℕ) a < S4x4096x2048.size a := fun a => by
        match a with
        | ⟨0, _⟩ => show 0 ≤ b.val * 1 + (k 0).val ∧ b.val * 1 + (k 0).val - 0 < 4; omega
        | ⟨1, _⟩ => show 4095 ≤ s.val * 1 + (k 1).val ∧ s.val * 1 + (k 1).val - 4095 < 4096; omega
        | ⟨2, _⟩ => show 0 ≤ f.val * 1 + (k 2).val ∧ f.val * 1 + (k 2).val - 0 < 2048; omega
      rw [dif_pos hin, if_pos hk]
      unfold entry
      rw [dif_pos (by omega)]
      refine congrArg X (funext fun a => Fin.ext ?_)
      match a with
      | ⟨0, _⟩ => show b.val * 1 + (k 0).val - 0 = b.val; omega
      | ⟨1, _⟩ => show s.val * 1 + (k 1).val - 4095 = s.val + (k 1).val - 4095; omega
      | ⟨2, _⟩ => show f.val * 1 + (k 2).val - 0 = f.val; omega
    · rw [if_neg hk, dif_neg]
      intro hin
      have := (hin 1).1
      change 4095 ≤ s.val * 1 + (k 1).val at this
      omega
  refine (Finset.sum_congr rfl fun k _ => hterm k).trans ?_
  rw [Equiv.sum_comp windowEquiv (fun k => if 4095 ≤ s.val + k.val then entry X b.val f.val (s.val + k.val - 4095) else 0)]
  exact sum_window (entry X b.val f.val) 4095 s.val (by omega)

/-! ## The precondition, element by element -/

/-- The f32 word of +∞ is the extended real ⊤. -/
theorem inf_word : Ideal.ofBits .f32 0x7F800000#32 = ⊤ := by simp [Ideal.ofBits, Ideal.ieee]

/-- Under the precondition every entry of the argument is a real number. -/
theorem finite_of_pre (X : FVec Ideal S4x4096x2048 .f32) (hp : Cert.Pre_finite.fn (F := Ideal) X = fun _ => 1#1)
    (i : S4x4096x2048.Idx) : X i ≠ (⊤ : EReal) ∧ X i ≠ (⊥ : EReal) := by
  have : Subsingleton Cert.Pre_finite.S_.Idx := ⟨fun a b => funext fun k => k.elim0⟩
  have h1 := Host.reduce_andi_all _ _ _ _ ix0 (congrFun hp ix0) i
  change Ideal.cmp .olt (max (X i : EReal) (-(X i : EReal))) (Ideal.ofBits .f32 0x7F800000#32) = 1#1 at h1
  rw [inf_word] at h1
  unfold Ideal.cmp at h1
  constructor
  · intro h
    rw [h] at h1
    simp at h1
  · intro h
    rw [h] at h1
    simp at h1

/-! ## The reference is the exclusive prefix sum -/

/-- THE REFERENCE at finite arguments: the inclusive sum less the entry itself is the exclusive prefix sum. -/
theorem reference_eq (X : FVec Ideal S4x4096x2048 .f32) (hX : ∀ i, X i ≠ (⊤ : EReal) ∧ X i ≠ (⊥ : EReal))
    (init : FVec Ideal (⟨0, ![]⟩ : Shape) .f32) (hinit : ∀ i, init i = (0 : EReal))
    (h : S4x4096x2048.ReduceWindows (![1, 4096, 1] : Fin 3 → ℕ) ![1, 1, 1] ![0, 4095, 0] ![0, 0, 0] S4x4096x2048)
    (hu : 0 < (⟨0, ![]⟩ : Shape).numel) :
    subf (Host.reduceWindowAdd ![1, 4096, 1] ![1, 1, 1] ![0, 4095, 0] ![0, 0, 0] X init h hu) X = prefixSum X := by
  funext i
  obtain ⟨b, s, f, rfl⟩ : ∃ (b : Fin 4) (s : Fin 4096) (f : Fin 2048), i = ix3 b s f := ⟨_, _, _, eq_ix3 i⟩
  have e : X (ix3 b s f) = entry X b.val f.val s.val := by
    unfold entry
    rw [dif_pos ⟨b.isLt, s.isLt, f.isLt⟩]
  have hf := hX (ix3 b s f)
  rw [subf_apply, cumsum_apply X init hinit]
  rw [e] at hf ⊢
  exact sum_succ_sub _ _ hf.1 hf.2

/-! ## The reference's run -/

namespace Ref

open Idealize.ShloMosaic.TcCoe Idealize.ShloMosaic.StableHlo Idealize.SL.Sem Cert.ReferenceIdeal Cert.ReferenceIdeal.Gen

variable {F : FTy → Type} [FloatOps F]

/-- The reference's operations: the zero, the zero as the sum's start, the windowed sum, and the subtraction. -/
abbrev steps : List (HloOp τ sig (Elt F)) :=
  [ TRef.nullary main_call0_call0.cst (constant S_ .f32 0x00000000#32),
    TRef.unary main_call0_call0.cst main_call0_call0.v0 (broadcastInDim S_ ![] bcast_S_S_),
    TRef.binary (TRef.of (T := ⟨Cert.ReferenceIdeal.S4x4096x2048, .f32⟩) main_arg0) main_call0_call0.v0 main_call0_call0.v1
      (fun x v => Host.reduceWindowAdd ![1, 4096, 1] ![1, 1, 1] ![0, 4095, 0] ![0, 0, 0] x v
        reduceWindows_S4x4096x2048_S4x4096x2048_w1s1p0_0_w4096s1p4095_0_w1s1p0_0 h_S_),
    binary main_v0 main_arg0 main_v1 subf ]

/-- The windowed sum less the array. -/
def result (x : FVec F Cert.ReferenceIdeal.S4x4096x2048 .f32) : FVec F Cert.ReferenceIdeal.S4x4096x2048 .f32 :=
  subf (Host.reduceWindowAdd ![1, 4096, 1] ![1, 1, 1] ![0, 4095, 0] ![0, 0, 0] x
    (broadcastInDim S_ ![] bcast_S_S_ (constant S_ .f32 0x00000000#32))
    reduceWindows_S4x4096x2048_S4x4096x2048_w1s1p0_0_w4096s1p4095_0_w1s1p0_0 h_S_) x

/-- The result buffer after the operations. -/
theorem result_after (V : Valuation τ sig (Elt F)) : after steps V (main_v1 : DevRef τ sig) = result (V (main_arg0 : DevRef τ sig)) := by
  simp only [steps, TRef.binary, TRef.nullary, TRef.unary, TRef.toBuf, TRef.ofBuf, cast_eq, result]
  after_results

/-- The argument buffer after the operations. -/
theorem arg_after (V : Valuation τ sig (Elt F)) : after steps V (main_arg0 : DevRef τ sig) = V (main_arg0 : DevRef τ sig) := by
  simp only [steps, TRef.binary, TRef.nullary, TRef.unary, TRef.toBuf, TRef.ofBuf, cast_eq]
  after_results

/-- The reference ends with `result` of its argument, which is unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = result (m ((c.tc : Thread nD τ).loc main_arg0))
      ∧ r.2.mem ((c.tc : Thread nD τ).loc main_arg0) = m ((c.tc : Thread nD τ).loc main_arg0) :=
  (θ_run defs _ _).mono (fun _ h c => ⟨(h c main_v1).trans (result_after _), (h c main_arg0).trans (arg_after _)⟩)
    (run_seq (by decide) (by decide) defs main (fun _ => steps) (fun _ => rfl)
      (fun _ => ⟨nullary_bufs_sub .., unary_bufs_sub .., binary_bufs_sub .., binary_bufs_sub ..⟩) m ρ)

end Ref

end Cert.Scan

end
-- ==== Proof.lean ====
/-
  THE CLAIMS. The kernel and its idealization end with the array of running sums, the argument unchanged and every counter at
  zero (`run_main` of Proof/Launch.lean and Proof/LaunchIdeal.lean); the reference by its own run. At the extended reals the
  running sums are the exclusive prefix sum (`sums_eq`), and so is the reference's result where the argument is finite
  (`reference_eq`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_finite
public import proofs.«01_k».proof.Proof.Launch
public import proofs.«01_k».proof.Proof.ValueIdeal
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The kernel's frame. -/
theorem frame_kernel : Cert.quiescent_Kernel := fun m ρ _ =>
  (θ_run Cert.Kernel.defs _ _).mono (fun _ h => ⟨fun c => (h.1 c).1, h.2⟩) (Cert.Kernel.Tiles.run_main (F := Bits) m ρ)

/-- The idealization's frame. -/
theorem frame_ideal : Cert.quiescent_KernelIdeal := fun m ρ _ =>
  (θ_run Cert.KernelIdeal.defs _ _).mono (fun _ h => ⟨fun c => (h.1 c).1, h.2⟩) (Cert.KernelIdeal.Tiles.run_main (F := Ideal) m ρ)

/-- The reference's frame: its run, read at its argument; it declares no semaphore, so every counter is zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.Scan.Ref.run (F := Ideal) m ρ)

/-- The value claim: both programs end at the exclusive prefix sum of the kernel's argument. -/
theorem algebraic : Cert.algebraic_KernelIdeal_ReferenceIdeal_pre_finite := by
  intro m g m' g' hpre hagree
  refine ⟨fun c => Cert.Scan.prefixSum (m (Cert.KernelIdeal.Tiles.xLoc c)),
    (θ_run Cert.KernelIdeal.defs _ _).mono
      (fun _ h c => ⟨(h.1 c).2.trans (Cert.KernelIdeal.Tiles.sums_eq _), (h.1 c).1⟩)
      (Cert.KernelIdeal.Tiles.run_main (F := Ideal) m g), ?_⟩
  refine (θ_run Cert.ReferenceIdeal.defs _ _).mono (fun r h c => ⟨(h c).1.trans ?_, (h c).2⟩)
    (Cert.Scan.Ref.run (F := Ideal) m' g')
  rw [hagree c]
  exact Cert.Scan.reference_eq _ (Cert.Scan.finite_of_pre _ (hpre c)) _ (fun _ => Cert.Scan.fill_zero) _ _

theorem claim : Cert.Claim :=
  ⟨Cert.Kernel.Gen.facts, Cert.KernelIdeal.Gen.facts, Cert.ReferenceIdeal.Gen.facts, Cert.Pre_finite.Gen.facts,
    frame_kernel, frame_ideal, fun m ρ _ => frame_ideal m ρ trivial, frame_reference,
    fun m ρ _ => frame_reference m ρ trivial, trivial, algebraic⟩

end Cert.Proof

end
